-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_fit_KernelIdeal [hPre_tokens_fit_KernelIdeal : Cert.Pre_tokens_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_fit_ReferenceIdeal [hPre_tokens_fit_ReferenceIdeal : Cert.Pre_tokens_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tokens_fit_KernelIdeal [hKernelIdeal : Cert.KernelIdeal.Facts] [hPre_tokens_fit_KernelIdeal : Cert.Pre_tokens_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tokens_fit_ReferenceIdeal [hReferenceIdeal : Cert.ReferenceIdeal.Facts] [hPre_tokens_fit_ReferenceIdeal : Cert.Pre_tokens_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tokens_fit_KernelIdeal [hKernelIdeal : Cert.KernelIdeal.Facts] [hReferenceIdeal : Cert.ReferenceIdeal.Facts] [hPre_tokens_fit_KernelIdeal : Cert.Pre_tokens_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_fit_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_fit_KernelIdeal : Cert.Pre_tokens_fit_KernelIdeal.Facts) (hPre_tokens_fit_ReferenceIdeal : Cert.Pre_tokens_fit_ReferenceIdeal.Facts),
    quiescent_Kernel (hKernel := hKernel)
    ∧ quiescent_KernelIdeal (hKernelIdeal := hKernelIdeal)
    ∧ quiescent_KernelIdeal_pre_tokens_fit_KernelIdeal (hKernelIdeal := hKernelIdeal) (hPre_tokens_fit_KernelIdeal := hPre_tokens_fit_KernelIdeal)
    ∧ quiescent_ReferenceIdeal (hReferenceIdeal := hReferenceIdeal)
    ∧ quiescent_ReferenceIdeal_pre_tokens_fit_ReferenceIdeal (hReferenceIdeal := hReferenceIdeal) (hPre_tokens_fit_ReferenceIdeal := hPre_tokens_fit_ReferenceIdeal)
    ∧ preserves_Kernel_KernelIdeal
    ∧ algebraic_KernelIdeal_ReferenceIdeal_pre_tokens_fit_KernelIdeal (hKernelIdeal := hKernelIdeal) (hReferenceIdeal := hReferenceIdeal) (hPre_tokens_fit_KernelIdeal := hPre_tokens_fit_KernelIdeal)
-- ==== Pre_tokens_fit_KernelIdeal.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩
abbrev S1024x16 : Shape := ⟨2, ![1024, 16]⟩
abbrev S16x64x16 : Shape := ⟨3, ![16, 64, 16]⟩
abbrev S16x16 : Shape := ⟨2, ![16, 16]⟩
abbrev S16 : Shape := ⟨1, ![16]⟩
abbrev S1x16 : Shape := ⟨2, ![1, 16]⟩
abbrev S16x64x1 : Shape := ⟨3, ![16, 64, 1]⟩
abbrev S16x1x16 : Shape := ⟨3, ![16, 1, 16]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S1024x1 : S_.BroadcastsInDim S1024x1 (![] : Fin 0 → Fin S1024x1.rank)
  bcast_S1024x1_S1024x16_0_1 : S1024x1.BroadcastsInDim S1024x16 (![0, 1] : Fin 2 → Fin S1024x16.rank)
  natLt_1_32 : 1 < 32
  shapeCasts_S1024x16_S16x64x16 : S1024x16.ShapeCasts S16x64x16
  reducesTo_S16x64x16_S16x16_d1 : S16x64x16.ReducesTo [1] S16x16
  reducesTo_S1024x16_S16_d0 : S1024x16.ReducesTo [0] S16
  bcast_S_S16x16 : S_.BroadcastsInDim S16x16 (![] : Fin 0 → Fin S16x16.rank)
  bcast_S_S16 : S_.BroadcastsInDim S16 (![] : Fin 0 → Fin S16.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  shapeCasts_S1024x1_S16x64x1 : S1024x1.ShapeCasts S16x64x1
  bcast_S_S16x64x1 : S_.BroadcastsInDim S16x64x1 (![] : Fin 0 → Fin S16x64x1.rank)
  bcast_S16x16_S16x1x16_0_2 : S16x16.BroadcastsInDim S16x1x16 (![0, 2] : Fin 2 → Fin S16x1x16.rank)
  bcast_S16x64x1_S16x64x16_0_1_2 : S16x64x1.BroadcastsInDim S16x64x16 (![0, 1, 2] : Fin 3 → Fin S16x64x16.rank)
  bcast_S16x1x16_S16x64x16_0_1_2 : S16x1x16.BroadcastsInDim S16x64x16 (![0, 1, 2] : Fin 3 → Fin S16x64x16.rank)

variable [Facts]

def fn_part1 {F : FTy → Type} [FloatOps F] (main_v8 : IVec S_ 1) (main_v13 : IVec S1024x1 1) (main_v15 : IVec S1024x1 32) (main_v16 : IVec S1024x16 32) : IVec S16x64x16 1 :=
  let main_v17 : IVec S1024x16 32 := broadcastInDim S1024x16 ![0, 1] bcast_S1024x1_S1024x16_0_1 main_v15
  let main_v18 : IVec S1024x16 1 := cmpi .eq main_v17 main_v16
  let main_v19 : IVec S1024x16 32 := (extui 32 · natLt_1_32) main_v18
  let main_v20 : IVec S16x64x16 32 := shapeCast S16x64x16 main_v19 shapeCasts_S1024x16_S16x64x16
  let main_c_5 : IVec S_ 32 := constantI S_ 32 0#32
  let main_v21 : IVec S16x16 32 := (fun x v => Host.reduce IntOp.addi x v reducesTo_S16x64x16_S16x16_d1 h_S_) main_v20 main_c_5
  let main_c_6 : IVec S_ 32 := constantI S_ 32 0#32
  let main_v22 : IVec S16 32 := (fun x v => Host.reduce IntOp.addi x v reducesTo_S1024x16_S16_d0 h_S_) main_v19 main_c_6
  let main_c_7 : IVec S_ 32 := constantI S_ 32 16#32
  let main_v23 : IVec S16x16 32 := broadcastInDim S16x16 ![] bcast_S_S16x16 main_c_7
  let main_v24 : IVec S16x16 1 := cmpi .sle main_v21 main_v23
  let main_c_8 : IVec S_ 32 := constantI S_ 32 128#32
  let main_v25 : IVec S16 32 := broadcastInDim S16 ![] bcast_S_S16 main_c_8
  let main_v26 : IVec S16 1 := cmpi .sle main_v22 main_v25
  let main_v27 : IVec S1x16 1 := broadcastInDim S1x16 ![1] bcast_S16_S1x16_1 main_v26
  let main_v28 : IVec S16x16 1 := broadcastInDim S16x16 ![0, 1] bcast_S1x16_S16x16_0_1 main_v27
  let main_v29 : IVec S16x16 1 := andi main_v24 main_v28
  let main_v30 : IVec S16x64x1 1 := shapeCast S16x64x1 main_v13 shapeCasts_S1024x1_S16x64x1
  let main_v31 : IVec S16x64x1 1 := broadcastInDim S16x64x1 ![] bcast_S_S16x64x1 main_v8
  let main_v32 : IVec S16x64x1 1 := andi main_v31 main_v30
  let main_v33 : IVec S16x1x16 1 := broadcastInDim S16x1x16 ![0, 2] bcast_S16x16_S16x1x16_0_2 main_v29
  let main_v34 : IVec S16x64x16 1 := broadcastInDim S16x64x16 ![0, 1, 2] bcast_S16x64x1_S16x64x16_0_1_2 main_v32
  let main_v35 : IVec S16x64x16 1 := broadcastInDim S16x64x16 ![0, 1, 2] bcast_S16x1x16_S16x64x16_0_1_2 main_v33
  let main_v36 : IVec S16x64x16 1 := andi main_v34 main_v35
  main_v36

def fn {F : FTy → Type} [FloatOps F] (main_arg0 : FVec F S1024x512 .f32) (main_arg1 : FVec F S512x64 .f32) (main_arg2 : IVec S1024x1 32) (main_arg3 : FVec F S4x512x1024 .f32) (main_arg4 : FVec F S512x1024 .f32) : IVec S16x64x16 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_c_3 : IVec S_ 32 := constantI S_ 32 64#32
  let main_v11 : IVec S1024x1 32 := broadcastInDim S1024x1 ![] bcast_S_S1024x1 main_c_3
  let main_v12 : IVec S1024x1 1 := cmpi .slt main_arg2 main_v11
  let main_v13 : IVec S1024x1 1 := andi main_v10 main_v12
  let main_c_4 : IVec S_ 32 := constantI S_ 32 4#32
  let main_v14 : IVec S1024x1 32 := broadcastInDim S1024x1 ![] bcast_S_S1024x1 main_c_4
  let main_v15 : IVec S1024x1 32 := Host.divsi main_arg2 main_v14
  let main_v16 : IVec S1024x16 32 := iotaInDim S1024x16 32 1
  fn_part1 (F := F) main_v8 main_v13 main_v15 main_v16
-- ==== Pre_tokens_fit_ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S512x1024 : Shape := ⟨2, ![512, 1024]⟩
abbrev S_ : Shape := ⟨0, ![]⟩
abbrev S1024x16 : Shape := ⟨2, ![1024, 16]⟩
abbrev S16x64x16 : Shape := ⟨3, ![16, 64, 16]⟩
abbrev S16x16 : Shape := ⟨2, ![16, 16]⟩
abbrev S16 : Shape := ⟨1, ![16]⟩
abbrev S1x16 : Shape := ⟨2, ![1, 16]⟩
abbrev S16x64x1 : Shape := ⟨3, ![16, 64, 1]⟩
abbrev S16x1x16 : Shape := ⟨3, ![16, 1, 16]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S1024x1 : S_.BroadcastsInDim S1024x1 (![] : Fin 0 → Fin S1024x1.rank)
  bcast_S1024x1_S1024x16_0_1 : S1024x1.BroadcastsInDim S1024x16 (![0, 1] : Fin 2 → Fin S1024x16.rank)
  natLt_1_32 : 1 < 32
  shapeCasts_S1024x16_S16x64x16 : S1024x16.ShapeCasts S16x64x16
  reducesTo_S16x64x16_S16x16_d1 : S16x64x16.ReducesTo [1] S16x16
  reducesTo_S1024x16_S16_d0 : S1024x16.ReducesTo [0] S16
  bcast_S_S16x16 : S_.BroadcastsInDim S16x16 (![] : Fin 0 → Fin S16x16.rank)
  bcast_S_S16 : S_.BroadcastsInDim S16 (![] : Fin 0 → Fin S16.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  shapeCasts_S1024x1_S16x64x1 : S1024x1.ShapeCasts S16x64x1
  bcast_S_S16x64x1 : S_.BroadcastsInDim S16x64x1 (![] : Fin 0 → Fin S16x64x1.rank)
  bcast_S16x16_S16x1x16_0_2 : S16x16.BroadcastsInDim S16x1x16 (![0, 2] : Fin 2 → Fin S16x1x16.rank)
  bcast_S16x64x1_S16x64x16_0_1_2 : S16x64x1.BroadcastsInDim S16x64x16 (![0, 1, 2] : Fin 3 → Fin S16x64x16.rank)
  bcast_S16x1x16_S16x64x16_0_1_2 : S16x1x16.BroadcastsInDim S16x64x16 (![0, 1, 2] : Fin 3 → Fin S16x64x16.rank)

variable [Facts]

def fn_part1 {F : FTy → Type} [FloatOps F] (main_v8 : IVec S_ 1) (main_v13 : IVec S1024x1 1) (main_v15 : IVec S1024x1 32) (main_v16 : IVec S1024x16 32) : IVec S16x64x16 1 :=
  let main_v17 : IVec S1024x16 32 := broadcastInDim S1024x16 ![0, 1] bcast_S1024x1_S1024x16_0_1 main_v15
  let main_v18 : IVec S1024x16 1 := cmpi .eq main_v17 main_v16
  let main_v19 : IVec S1024x16 32 := (extui 32 · natLt_1_32) main_v18
  let main_v20 : IVec S16x64x16 32 := shapeCast S16x64x16 main_v19 shapeCasts_S1024x16_S16x64x16
  let main_c_5 : IVec S_ 32 := constantI S_ 32 0#32
  let main_v21 : IVec S16x16 32 := (fun x v => Host.reduce IntOp.addi x v reducesTo_S16x64x16_S16x16_d1 h_S_) main_v20 main_c_5
  let main_c_6 : IVec S_ 32 := constantI S_ 32 0#32
  let main_v22 : IVec S16 32 := (fun x v => Host.reduce IntOp.addi x v reducesTo_S1024x16_S16_d0 h_S_) main_v19 main_c_6
  let main_c_7 : IVec S_ 32 := constantI S_ 32 16#32
  let main_v23 : IVec S16x16 32 := broadcastInDim S16x16 ![] bcast_S_S16x16 main_c_7
  let main_v24 : IVec S16x16 1 := cmpi .sle main_v21 main_v23
  let main_c_8 : IVec S_ 32 := constantI S_ 32 128#32
  let main_v25 : IVec S16 32 := broadcastInDim S16 ![] bcast_S_S16 main_c_8
  let main_v26 : IVec S16 1 := cmpi .sle main_v22 main_v25
  let main_v27 : IVec S1x16 1 := broadcastInDim S1x16 ![1] bcast_S16_S1x16_1 main_v26
  let main_v28 : IVec S16x16 1 := broadcastInDim S16x16 ![0, 1] bcast_S1x16_S16x16_0_1 main_v27
  let main_v29 : IVec S16x16 1 := andi main_v24 main_v28
  let main_v30 : IVec S16x64x1 1 := shapeCast S16x64x1 main_v13 shapeCasts_S1024x1_S16x64x1
  let main_v31 : IVec S16x64x1 1 := broadcastInDim S16x64x1 ![] bcast_S_S16x64x1 main_v8
  let main_v32 : IVec S16x64x1 1 := andi main_v31 main_v30
  let main_v33 : IVec S16x1x16 1 := broadcastInDim S16x1x16 ![0, 2] bcast_S16x16_S16x1x16_0_2 main_v29
  let main_v34 : IVec S16x64x16 1 := broadcastInDim S16x64x16 ![0, 1, 2] bcast_S16x64x1_S16x64x16_0_1_2 main_v32
  let main_v35 : IVec S16x64x16 1 := broadcastInDim S16x64x16 ![0, 1, 2] bcast_S16x1x16_S16x64x16_0_1_2 main_v33
  let main_v36 : IVec S16x64x16 1 := andi main_v34 main_v35
  main_v36

def fn {F : FTy → Type} [FloatOps F] (main_arg0 : FVec F S1024x512 .f32) (main_arg1 : FVec F S512x64 .f32) (main_arg2 : IVec S1024x1 32) (main_arg3 : FVec F S64x512x1024 .f32) (main_arg4 : FVec F S512x1024 .f32) : IVec S16x64x16 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_c_3 : IVec S_ 32 := constantI S_ 32 64#32
  let main_v11 : IVec S1024x1 32 := broadcastInDim S1024x1 ![] bcast_S_S1024x1 main_c_3
  let main_v12 : IVec S1024x1 1 := cmpi .slt main_arg2 main_v11
  let main_v13 : IVec S1024x1 1 := andi main_v10 main_v12
  let main_c_4 : IVec S_ 32 := constantI S_ 32 4#32
  let main_v14 : IVec S1024x1 32 := broadcastInDim S1024x1 ![] bcast_S_S1024x1 main_c_4
  let main_v15 : IVec S1024x1 32 := Host.divsi main_arg2 main_v14
  let main_v16 : IVec S1024x16 32 := iotaInDim S1024x16 32 1
  fn_part1 (F := F) main_v8 main_v13 main_v15 main_v16
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S64x1024 : Shape := ⟨2, ![64, 1024]⟩
abbrev S256x1024 : Shape := ⟨2, ![256, 1024]⟩
abbrev S16 : Shape := ⟨1, ![16]⟩
abbrev S_ : Shape := ⟨0, ![]⟩
abbrev S1024x64 : Shape := ⟨2, ![1024, 64]⟩
abbrev S1024 : Shape := ⟨1, ![1024]⟩
abbrev S256x256 : Shape := ⟨2, ![256, 256]⟩
abbrev S256x64 : Shape := ⟨2, ![256, 64]⟩
abbrev S256x1 : Shape := ⟨2, ![256, 1]⟩
abbrev S256x4 : Shape := ⟨2, ![256, 4]⟩
abbrev S512x256 : Shape := ⟨2, ![512, 256]⟩
abbrev S512x4 : Shape := ⟨2, ![512, 4]⟩
abbrev S1x4 : Shape := ⟨2, ![1, 4]⟩
abbrev S1x1 : Shape := ⟨2, ![1, 1]⟩
abbrev S1024x128 : Shape := ⟨2, ![1024, 128]⟩
abbrev S128x512 : Shape := ⟨2, ![128, 512]⟩
abbrev S1024x2 : Shape := ⟨2, ![1024, 2]⟩
abbrev S128x2 : Shape := ⟨2, ![128, 2]⟩
abbrev S128x1 : Shape := ⟨2, ![128, 1]⟩
abbrev S1x512x1024 : Shape := ⟨3, ![1, 512, 1024]⟩
abbrev S128x1024 : Shape := ⟨2, ![128, 1024]⟩
abbrev S256x128 : Shape := ⟨2, ![256, 128]⟩
abbrev S64x128 : Shape := ⟨2, ![64, 128]⟩
abbrev S1 : Shape := ⟨1, ![1]⟩
abbrev S16x1024 : Shape := ⟨2, ![16, 1024]⟩
abbrev S64x1 : Shape := ⟨2, ![64, 1]⟩
abbrev S64x16 : Shape := ⟨2, ![64, 16]⟩
abbrev S64x64 : Shape := ⟨2, ![64, 64]⟩
abbrev S64 : Shape := ⟨1, ![64]⟩
abbrev S64x256 : Shape := ⟨2, ![64, 256]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S64x1024, .f32⟩
  | .local _ .vmem, ⟨0, _⟩ => ⟨S1024x512, .f32⟩
  | .local _ .vmem, ⟨1, _⟩ => ⟨S512x64, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S64x1024, .f32⟩
  | .local _ .vmem, ⟨6, _⟩ => ⟨S256x1024, .bf16⟩
  | .local _ .vmem, ⟨7, _⟩ => ⟨S256x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_112 : BitVec 32 := 16#32
  let v250 : BitVec 32 := Scalar.muli v2 c16_i32_112
  let c0_i32_117 : BitVec 32 := 0#32
  ![v250.toNat, 0]
def k0_dev17 : Nat :=
  let c0_i32_116 : BitVec 32 := 0#32
  let c0_i32_114 : BitVec 32 := 0#32
  let c1_i32_115 : BitVec 32 := 1#32
  let v251 : BitVec 32 := Scalar.muli c0_i32_114 c1_i32_115
  let v252 : BitVec 32 := Scalar.addi c0_i32_116 v251
  v252.toNat
def k0_dev18 : Nat :=
  let c0_i32_124 : BitVec 32 := 0#32
  let c1_i32_122 : BitVec 32 := 1#32
  let c1_i32_123 : BitVec 32 := 1#32
  let v260 : BitVec 32 := Scalar.muli c1_i32_122 c1_i32_123
  let v261 : BitVec 32 := Scalar.addi c0_i32_124 v260
  v261.toNat
def k0_dev19 : Nat :=
  let c0_i32_132 : BitVec 32 := 0#32
  let c2_i32_130 : BitVec 32 := 2#32
  let c1_i32_131 : BitVec 32 := 1#32
  let v269 : BitVec 32 := Scalar.muli c2_i32_130 c1_i32_131
  let v270 : BitVec 32 := Scalar.addi c0_i32_132 v269
  v270.toNat
def k0_dev20 : Nat :=
  let c0_i32_139 : BitVec 32 := 0#32
  let c3_i32_137 : BitVec 32 := 3#32
  let c1_i32_138 : BitVec 32 := 1#32
  let v278 : BitVec 32 := Scalar.muli c3_i32_137 c1_i32_138
  let v279 : BitVec 32 := Scalar.addi c0_i32_139 v278
  v279.toNat
def k0_dev21 : Nat :=
  let c0_i32_162 : BitVec 32 := 0#32
  let c4_i32_160 : BitVec 32 := 4#32
  let c1_i32_161 : BitVec 32 := 1#32
  let v350 : BitVec 32 := Scalar.muli c4_i32_160 c1_i32_161
  let v351 : BitVec 32 := Scalar.addi c0_i32_162 v350
  v351.toNat
def k0_dev22 : Nat :=
  let c0_i32_170 : BitVec 32 := 0#32
  let c5_i32_168 : BitVec 32 := 5#32
  let c1_i32_169 : BitVec 32 := 1#32
  let v359 : BitVec 32 := Scalar.muli c5_i32_168 c1_i32_169
  let v360 : BitVec 32 := Scalar.addi c0_i32_170 v359
  v360.toNat
def k0_dev23 : Nat :=
  let c0_i32_177 : BitVec 32 := 0#32
  let c6_i32_175 : BitVec 32 := 6#32
  let c1_i32_176 : BitVec 32 := 1#32
  let v368 : BitVec 32 := Scalar.muli c6_i32_175 c1_i32_176
  let v369 : BitVec 32 := Scalar.addi c0_i32_177 v368
  v369.toNat
def k0_dev24 : Nat :=
  let c0_i32_184 : BitVec 32 := 0#32
  let c7_i32_182 : BitVec 32 := 7#32
  let c1_i32_183 : BitVec 32 := 1#32
  let v377 : BitVec 32 := Scalar.muli c7_i32_182 c1_i32_183
  let v378 : BitVec 32 := Scalar.addi c0_i32_184 v377
  v378.toNat
def k0_dev25 : Nat :=
  let c0_i32_207 : BitVec 32 := 0#32
  let c8_i32_205 : BitVec 32 := 8#32
  let c1_i32_206 : BitVec 32 := 1#32
  let v449 : BitVec 32 := Scalar.muli c8_i32_205 c1_i32_206
  let v450 : BitVec 32 := Scalar.addi c0_i32_207 v449
  v450.toNat
def k0_dev26 : Nat :=
  let c0_i32_215 : BitVec 32 := 0#32
  let c9_i32_213 : BitVec 32 := 9#32
  let c1_i32_214 : BitVec 32 := 1#32
  let v458 : BitVec 32 := Scalar.muli c9_i32_213 c1_i32_214
  let v459 : BitVec 32 := Scalar.addi c0_i32_215 v458
  v459.toNat
def k0_dev27 : Nat :=
  let c0_i32_222 : BitVec 32 := 0#32
  let c10_i32_220 : BitVec 32 := 10#32
  let c1_i32_221 : BitVec 32 := 1#32
  let v467 : BitVec 32 := Scalar.muli c10_i32_220 c1_i32_221
  let v468 : BitVec 32 := Scalar.addi c0_i32_222 v467
  v468.toNat
def k0_dev28 : Nat :=
  let c0_i32_229 : BitVec 32 := 0#32
  let c11_i32_227 : BitVec 32 := 11#32
  let c1_i32_228 : BitVec 32 := 1#32
  let v476 : BitVec 32 := Scalar.muli c11_i32_227 c1_i32_228
  let v477 : BitVec 32 := Scalar.addi c0_i32_229 v476
  v477.toNat
def k0_dev29 : Nat :=
  let c0_i32_252 : BitVec 32 := 0#32
  let c12_i32_250 : BitVec 32 := 12#32
  let c1_i32_251 : BitVec 32 := 1#32
  let v548 : BitVec 32 := Scalar.muli c12_i32_250 c1_i32_251
  let v549 : BitVec 32 := Scalar.addi c0_i32_252 v548
  v549.toNat
def k0_dev30 : Nat :=
  let c0_i32_259 : BitVec 32 := 0#32
  let c13_i32_257 : BitVec 32 := 13#32
  let c1_i32_258 : BitVec 32 := 1#32
  let v557 : BitVec 32 := Scalar.muli c13_i32_257 c1_i32_258
  let v558 : BitVec 32 := Scalar.addi c0_i32_259 v557
  v558.toNat
def k0_dev31 : Nat :=
  let c0_i32_266 : BitVec 32 := 0#32
  let c14_i32_264 : BitVec 32 := 14#32
  let c1_i32_265 : BitVec 32 := 1#32
  let v566 : BitVec 32 := Scalar.muli c14_i32_264 c1_i32_265
  let v567 : BitVec 32 := Scalar.addi c0_i32_266 v566
  v567.toNat
def k0_dev32 : Nat :=
  let c0_i32_273 : BitVec 32 := 0#32
  let c15_i32_271 : BitVec 32 := 15#32
  let c1_i32_272 : BitVec 32 := 1#32
  let v575 : BitVec 32 := Scalar.muli c15_i32_271 c1_i32_272
  let v576 : BitVec 32 := Scalar.addi c0_i32_273 v575
  v576.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_276 : BitVec 32 := 64#32
  let v583 : BitVec 32 := Scalar.muli v2 c64_i32_276
  let v584 : Index := Scalar.indexCast v583
  let c0_277 : Index := 0#32
  ![v584.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_285 : BitVec 32 := 64#32
  let v620 : BitVec 32 := Scalar.muli v2 c64_i32_285
  let v621 : Index := Scalar.indexCast v620
  let c0_286 : Index := 0#32
  ![v621.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S512x1024 : Shape := ⟨2, ![512, 1024]⟩
abbrev S1024x64 : Shape := ⟨2, ![1024, 64]⟩
abbrev S_ : Shape := ⟨0, ![]⟩
abbrev S1024 : Shape := ⟨1, ![1024]⟩
abbrev S1024x1024 : Shape := ⟨2, ![1024, 1024]⟩
abbrev S1024x1x1 : Shape := ⟨3, ![1024, 1, 1]⟩
abbrev S1 : Shape := ⟨1, ![1]⟩
abbrev S1x1x1 : Shape := ⟨3, ![1, 1, 1]⟩
abbrev S1024x512x1024 : Shape := ⟨3, ![1024, 512, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S64x512x1024, .f32⟩
  | .hbm, ⟨4, _⟩ => ⟨S512x1024, .f32⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x64, .f32⟩
  | .hbm, ⟨16, _⟩ => ⟨S1024x64, .f32⟩
  | .hbm, ⟨17, _⟩ => ⟨S1024x1024, .f32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S_, .i32⟩
  | .hbm, ⟨22, _⟩ => ⟨S1024x1, .i32⟩
  | .hbm, ⟨23, _⟩ => ⟨S1024x1, .i32⟩
  | .hbm, ⟨24, _⟩ => ⟨S1024x1, .i32⟩
  | .hbm, ⟨25, _⟩ => ⟨S1024x1x1, .i32⟩
  | .hbm, ⟨26, _⟩ => ⟨S1, .i32⟩
  | .hbm, ⟨27, _⟩ => ⟨S_, .i32⟩
  | .hbm, ⟨28, _⟩ => ⟨S1024x1x1, .i32⟩
  | .hbm, ⟨29, _⟩ => ⟨S1024x1x1, .i1⟩
  | .hbm, ⟨30, _⟩ => ⟨S1x1x1, .i32⟩
  | .hbm, ⟨31, _⟩ => ⟨S1024x1x1, .i32⟩
  | .hbm, ⟨32, _⟩ => ⟨S1024x1x1, .i1⟩
  | .hbm, ⟨33, _⟩ => ⟨S1024x1x1, .i1⟩
  | .hbm, ⟨34, _⟩ => ⟨S_, .i1⟩
  | .hbm, ⟨35, _⟩ => ⟨S1024x1, .i1⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x512x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Values.lean ====
/-
The values the kernel computes on one device, as plain functions of the five arrays a device holds: the rows it
stages for its peers, and its block of the result. The generated payload functions are composed here in the order
the kernel calls them.
-/
module

public import proofs.«01_k».proof.Proof.Gen.KernelIdeal
public import proofs.«01_k».proof.Proof.Gen.KernelIdeal.Skeleton
public import Idealize.ShloMosaic.Lib.ValueIdxCore

@[expose] public section

noncomputable section

namespace Cert.Moe

open Cert.KernelIdeal Cert.KernelIdeal.Gen
open Idealize.ShloMosaic Idealize.ShloMosaic.TcCoe

variable {F : FTy → Type} [FloatOps F]

/-- The word a device computes its place on the mesh from. -/
def me (c : Dev nD) : BitVec 32 := Scalar.remsi (Scalar.divsi (Dev.word c) 1#32) 16#32

set_option backward.proofsInPublic true in
/-- Each of the four experts' slabs lies within the array. -/
theorem slab_inb (e : Fin 4) : ∀ a, (![e.val, 0, 0] : Fin 3 → ℕ) a + S1x512x1024.size a ≤ S4x512x1024.size a := by
  revert e; decide

/-- One expert's weights, cut out of the four a device holds. -/
def slab (e : Fin 4) (ew : Vec F S4x512x1024 .f32) : Vec F S1x512x1024 .f32 :=
  (Memref.whole cc0_stg3_0).view.readAt (Elt F) (Rect.unit (s := S4x512x1024) ![e.val, 0, 0] S1x512x1024.size (slab_inb e)).toLoadRect ew

/-- For each token (a row) and each of four token blocks, the counts the ranks are made of. -/
def counts (w : BitVec 32) (rt : Vec F S1024x1 .i32) : FVec F S512x4 .f32 :=
  k0_pay11 (k0_pay4 (F := F)) (k0_pay5 (F := F)) (k0_pay7 w rt) (k0_pay8 w rt) (k0_pay9 w rt) (k0_pay10 w rt)
/-- Each token's rank among the device's own tokens. -/
def rank (w : BitVec 32) (rt : Vec F S1024x1 .i32) : IVec S1024x1 32 :=
  k0_pay12 (k0_pay4 (F := F)) (k0_pay5 (F := F)) (k0_pay7 w rt) (k0_pay8 w rt) (k0_pay9 w rt) (k0_pay10 w rt)
/-- The 0/1 matrix that gathers the device's own tokens by rank. -/
def gatherM (w : BitVec 32) (rt : Vec F S1024x1 .i32) : FVec F S1024x128 .f32 :=
  k0_pay13 (k0_pay4 (F := F)) (k0_pay5 (F := F)) (k0_pay6 w rt) (k0_pay7 w rt) (k0_pay8 w rt) (k0_pay9 w rt) (k0_pay10 w rt)
/-- The gathered tokens. -/
def xg (w : BitVec 32) (x : Vec F S1024x512 .f32) (rt : Vec F S1024x1 .i32) : FVec F S128x512 .f32 :=
  k0_pay14 (k0_pay1 x) (k0_pay4 (F := F)) (k0_pay5 (F := F)) (k0_pay6 w rt) (k0_pay7 w rt) (k0_pay8 w rt) (k0_pay9 w rt) (k0_pay10 w rt)
/-- The routes as floats, and the routed weight of each token. -/
def rtF (rt : Vec F S1024x1 .i32) : FVec F S1024x1 .f32 := k0_pay15 (k0_pay2 rt)
/-- Each token's routed weight. -/
def coef (x : Vec F S1024x512 .f32) (rw' : Vec F S512x64 .f32) (rt : Vec F S1024x1 .i32) : FVec F S1024x1 .f32 := k0_pay3 x rw' rt

/-- The experts' outputs of the gathered tokens. -/
def yg (w : BitVec 32) (x : Vec F S1024x512 .f32) (rw' : Vec F S512x64 .f32) (rt : Vec F S1024x1 .i32) (ew : Vec F S4x512x1024 .f32) :
    FVec F S128x1024 .f32 :=
  k0_pay22 w (xg w x rt) (k0_pay17 (coef x rw' rt) (gatherM w rt) (rtF rt)) (k0_pay18 (coef x rw' rt) (gatherM w rt) (rtF rt))
    (k0_pay19 w (coef x rw' rt) (gatherM w rt) (xg w x rt) (rtF rt) (slab 0 ew) (slab 1 ew))
    (k0_pay20 w (coef x rw' rt) (gatherM w rt) (xg w x rt) (rtF rt)) (k0_pay21 (slab 2 ew))
    (constant S128x1024 .f32 0x00000000#32) (slab 3 ew)

/-- The lane numbers the compose step compares slots with. -/
def lanes : IVec S256x64 32 := iota .tc S256x64 32 [1] iota_S256x64_d1_w32

/-- The four blocks of 64 rows a device stages, block `z` holding the outputs bound for devices `4z` to `4z + 3`. -/
def stageBlk (w : BitVec 32) (x : Vec F S1024x512 .f32) (rw' : Vec F S512x64 .f32) (rt : Vec F S1024x1 .i32) (ew : Vec F S4x512x1024 .f32) :
    Fin 4 → FVec F S64x1024 .bf16
  | 0 => k0_pay27 lanes (rank w rt) (yg w x rw' rt ew) (k0_pay23 (k0_pay6 w rt)) (k0_pay24 (counts w rt)) k0_pay25 k0_pay26 1#32
  | 1 => k0_pay34 (yg w x rw' rt ew) (k0_pay30 lanes (k0_pay28 (k0_pay6 w rt)) (k0_pay29 (counts w rt))) (k0_pay32 (rank w rt) (k0_pay28 (k0_pay6 w rt)))
      (iota .tc S256x128 32 [1] iota_S256x128_d1_w32) (k0_pay33 (rank w rt))
  | 2 => k0_pay40 lanes (rank w rt) (yg w x rw' rt ew) (k0_pay35 (k0_pay6 w rt)) (k0_pay36 (counts w rt))
      (iota .tc S256x1 32 [0] iota_S256x1_d0_w32) k0_pay37 k0_pay38 k0_pay39
  | 3 => k0_pay44 (yg w x rw' rt ew) (k0_pay41 (k0_pay6 w rt)) (k0_pay42 lanes (k0_pay6 w rt) (counts w rt)) (k0_pay43 (rank w rt))

/-- The whole staging buffer. -/
def stage (w : BitVec 32) (x : Vec F S1024x512 .f32) (rw' : Vec F S512x64 .f32) (rt : Vec F S1024x1 .i32) (ew : Vec F S4x512x1024 .f32) :
    Vec F S256x1024 .bf16 :=
  fun i => stageBlk w x rw' rt ew ⟨(i 0).val / 64, by have := (i 0).isLt; change (i 0).val < 256 at this; omega⟩
    (ValueIdx.ix2 ⟨(i 0).val % 64, Nat.mod_lt _ (by decide)⟩ ⟨(i 1).val, (i 1).isLt⟩)

/-- A device's own 64 rows of the routes and of the tokens. -/
def rtMine (c : Dev nD) (rt : Vec F S1024x1 .i32) : Vec F S64x1 .i32 :=
  (Memref.whole cc0_stg2_0).view.readAt (Elt F) (Rect.unit (s := S1024x1) (k0_off3 c) S64x1.size (k0_off3_inb c)).toLoadRect rt
/-- The device's own chunk of tokens. -/
def xMine (c : Dev nD) (x : Vec F S1024x512 .f32) : Vec F S64x512 .f32 :=
  (Memref.whole cc0_stg0_0).view.readAt (Elt F) (Rect.unit (s := S1024x512) (k0_off4 c) S64x512.size (k0_off4_inb c)).toLoadRect x

/-- A device's block of the result, from its own tokens and the rows `rp` its peers sent it. -/
def result (c : Dev nD) (x : Vec F S1024x512 .f32) (rt : Vec F S1024x1 .i32) (sw : Vec F S512x1024 .f32) (rp : Vec F S256x1024 .bf16) :
    Vec F S64x1024 .f32 :=
  k0_pay49 (k0_pay47 (k0_pay45 (rtMine c rt)) (k0_pay46 (rtMine c rt))) (k0_pay48 (xMine c x) sw) rp

end Cert.Moe

end
-- ==== Proof.Protocol.lean ====
/-
The communication protocol of the kernel: sixteen devices, each of which signals every device's barrier semaphore,
waits for sixteen signals on its own, sends sixteen rows to every device, and waits for the sixteen transfers into
its own landing buffer and for the sixteen transfers out of its staging buffer.

Here: the semaphore cells, the row slots of the two scratch buffers, what each signal or landing hands over, what a
device owes, and one lemma per kind of step, for any device and any peer.
-/
module

public import proofs.«01_k».proof.Proof.Values
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (rangeSet)

variable {F : FTy → Type} [FloatOps F]

/-- The protocol's duties are named by devices: a barrier's duty `d` is device `d`'s signal. -/
abbrev UB : Type := URounds (GSem nD τ sig) (Fin 16)
/-- The ghost state: the pipeline's rounds, and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Cells -/

/-- The staging buffer and the landing buffer. -/
abbrev stgM : Memref sig .tc .vmem S256x1024 .bf16 := Memref.whole cc0_scratch0
abbrev rpM : Memref sig .tc .vmem S256x1024 .bf16 := Memref.whole cc0_scratch1

set_option backward.proofsInPublic true in
/-- Semaphore `j` is one of the sixteen. -/
theorem sem_inb (j : Fin 16) : ∀ a, (![j.val] : Fin 1 → ℕ) a + S1.size a ≤ S16.size a := by
  revert j; decide

/-- The barrier semaphore, and the send and receive semaphores for peer `j`. -/
abbrev barS : Sem sig := (SemArray.scalar (sig.barrier 0 rfl) : Sems sig S_).sem
abbrev sendS (j : Fin 16) : DmaSem sig :=
  ((cc0_scratch2.slice (Rect.unit (s := S16) ![j.val] S1.size (sem_inb j))).squeeze S_ squeezes_S1_S_ : DmaSems sig S_).sem
abbrev recvS (j : Fin 16) : DmaSem sig :=
  ((cc0_scratch3.slice (Rect.unit (s := S16) ![j.val] S1.size (sem_inb j))).squeeze S_ squeezes_S1_S_ : DmaSems sig S_).sem

abbrev barCell (c : Dev nD) : GSem nD τ sig := ((c : Thread nD τ), .reg barS)
abbrev sendCell (c : Dev nD) (j : Fin 16) : GSem nD τ sig := ((c : Thread nD τ), .dma (sendS j))
abbrev recvCell (c : Dev nD) (j : Fin 16) : GSem nD τ sig := ((c : Thread nD τ), .dma (recvS j))

/-- The names of a device's cells: its barrier, its send cells, its receive cells. -/
abbrev Ck : Type := Unit ⊕ (Fin 16 ⊕ Fin 16)
abbrev osem : Fin 16 ⊕ Fin 16 → SemLoc sig := fun | .inl j => .dma (sendS j) | .inr j => .dma (recvS j)
abbrev csem : Ck → SemLoc sig := fun | .inl _ => .reg barS | .inr k => osem k
abbrev kcell (ck : Dev nD × Ck) : GSem nD τ sig := ((ck.1 : Thread nD τ), csem ck.2)

/-- Which of a device's transfer cells a semaphore is, read off its number. -/
def which : SemLoc sig → Option (Fin 16 ⊕ Fin 16)
  | .dma q => if h : 6 ≤ q.val ∧ q.val < 22 then some (.inl ⟨q.val - 6, by omega⟩)
      else if h : 22 ≤ q.val ∧ q.val < 38 then some (.inr ⟨q.val - 22, by omega⟩) else none
  | .reg _ => none

/-- A transfer cell's kind and number are read off its semaphore; -/
theorem which_osem (k : Fin 16 ⊕ Fin 16) : which (osem k) = some k := by revert k; decide
/-- so for a send cell, -/
theorem which_send (j : Fin 16) : which (.dma (sendS j)) = some (.inl j) := which_osem (.inl j)
/-- for a receive cell, -/
theorem which_recv (j : Fin 16) : which (.dma (recvS j)) = some (.inr j) := which_osem (.inr j)
/-- and the barrier is neither. -/
theorem which_bar : which (.reg barS) = none := rfl

/-- Different transfer cells have different semaphores; -/
theorem osem_injective : Function.Injective osem := fun a b h =>
  Option.some.inj ((which_osem a).symm.trans ((congrArg which h).trans (which_osem b)))
/-- none of them is the barrier's; -/
theorem osem_ne_bar (k : Fin 16 ⊕ Fin 16) : osem k ≠ .reg barS := fun h => by
  have := congrArg which h; rw [which_osem, which_bar] at this; cases this
/-- and different cells of the protocol are different semaphores of the mesh. -/
theorem kcell_injective : Function.Injective (kcell : Dev nD × Ck → GSem nD τ sig) := by
  rintro ⟨c, k⟩ ⟨c', k'⟩ h
  have h1 : c = c' := congrArg (fun g : GSem nD τ sig => g.1.1) h
  have h2 : csem k = csem k' := congrArg Prod.snd h
  subst h1
  rcases k with _ | k <;> rcases k' with _ | k'
  · rfl
  · exact absurd h2.symm (osem_ne_bar k')
  · exact absurd h2 (osem_ne_bar k)
  · rw [osem_injective h2]

/-! ## Row slots -/

/-- A slot lies within its buffer, however its offset is spelt; -/
theorem slot_inb {o : Fin 2 → ℕ} {j : Fin 16} (h : o = ![16 * j.val, 0]) : ∀ a, o a + S16x1024.size a ≤ S256x1024.size a := by
  subst h; revert j; decide
/-- so with the offset written out. -/
theorem slotAt_inb (j : Fin 16) : ∀ a, (![16 * j.val, 0] : Fin 2 → ℕ) a + S16x1024.size a ≤ S256x1024.size a := slot_inb rfl
/-- A block lies within its buffer. -/
theorem blkAt_inb (z : Fin 4) : ∀ a, (![64 * z.val, 0] : Fin 2 → ℕ) a + S64x1024.size a ≤ S256x1024.size a := by
  revert z; decide

/-- Sixteen rows of a 256-row buffer, and sixty-four. -/
abbrev slotR (j : Fin 16) : Rect S256x1024 := Rect.unit (s := S256x1024) ![16 * j.val, 0] S16x1024.size (slotAt_inb j)
abbrev blkR (z : Fin 4) : Rect S256x1024 := Rect.unit (s := S256x1024) ![64 * z.val, 0] S64x1024.size (blkAt_inb z)

abbrev slotM (M : Memref sig .tc .vmem S256x1024 .bf16) (j : Fin 16) : Memref sig .tc .vmem S16x1024 .bf16 := M.slice (slotR j) (fun _ => rfl)

/-- The elements of slot `j` are those of its sixteen rows; -/
theorem mem_slotR (j : Fin 16) (i : S256x1024.Idx) : i ∈ (slotR j).set ↔ 16 * j.val ≤ (i 0).val ∧ (i 0).val < 16 * j.val + 16 := by
  rw [Rect.mem_set_unit, Fin.forall_fin_two]
  have h1 : (i 1).val < 1024 := (i 1).isLt
  show ((16 * j.val ≤ (i 0).val ∧ (i 0).val < 16 * j.val + 16) ∧ (0 ≤ (i 1).val ∧ (i 1).val < 0 + 1024)) ↔ _
  omega
/-- the elements of block `z` are those of its 64 rows. -/
theorem mem_blkR (z : Fin 4) (i : S256x1024.Idx) : i ∈ (blkR z).set ↔ 64 * z.val ≤ (i 0).val ∧ (i 0).val < 64 * z.val + 64 := by
  rw [Rect.mem_set_unit, Fin.forall_fin_two]
  have h1 : (i 1).val < 1024 := (i 1).isLt
  show ((64 * z.val ≤ (i 0).val ∧ (i 0).val < 64 * z.val + 64) ∧ (0 ≤ (i 1).val ∧ (i 1).val < 0 + 1024)) ↔ _
  omega

/-- A transfer's credit. -/
abbrev N : ℕ := (slotM rpM 0).view.dmaCredit
/-- A transfer's credit is positive. -/
theorem N_pos : 0 < N := View.dmaCredit_pos _ (by decide)

/-! ## Contents -/

/-- The arrays device `c` holds. -/
def xV (c : Dev nD) : Vec F S1024x512 .f32 := (win0_0.blk (0 : Fin 1)).view.read (Elt F) (m ((c : Thread nD τ).loc main_arg0))
/-- What device `c` reads of the router's weights, -/
def rwV (c : Dev nD) : Vec F S512x64 .f32 := (win0_1.blk (0 : Fin 1)).view.read (Elt F) (m ((c : Thread nD τ).loc main_arg1))
/-- of the experts' numbers, -/
def rtV (c : Dev nD) : Vec F S1024x1 .i32 := (win0_2.blk (0 : Fin 1)).view.read (Elt F) (m ((c : Thread nD τ).loc main_arg2))
/-- of the experts' weights -/
def ewV (c : Dev nD) : Vec F S4x512x1024 .f32 := (win0_3.blk (0 : Fin 1)).view.read (Elt F) (m ((c : Thread nD τ).loc main_arg3))
/-- and of the shared weights. -/
def swV (c : Dev nD) : Vec F S512x1024 .f32 := (win0_4.blk (0 : Fin 1)).view.read (Elt F) (m ((c : Thread nD τ).loc main_arg4))

/-- What device `c` stages. -/
def stgV (c : Dev nD) : Vec F S256x1024 .bf16 := stage (me c) (xV m c) (rwV m c) (rtV m c) (ewV m c)
/-- What device `c`'s landing buffer holds in the end: in slot `j`, slot `c` of device `j`'s staging buffer. -/
def rpV (c : Dev nD) : Vec F S256x1024 .bf16 := fun i =>
  stgV m ⟨(i 0).val / 16, by have := (i 0).isLt; change (i 0).val < 256 at this; change _ < 16; omega⟩
    (ValueIdx.ix2 ⟨16 * c.val + (i 0).val % 16, by have h : c.val < 16 := c.isLt; omega⟩ ⟨(i 1).val, (i 1).isLt⟩)

/-- Slot `j` of device `c`'s staging (landing) buffer at contents `f`. -/
def stgPts (c : Dev nD) (j : Fin 16) (f : Vec F S256x1024 .bf16) : sProp (MT nD τ sig Unit (Elt F) ℕ UU ℕ) :=
  (slotM stgM j).view.loc (c : Thread nD τ) ↦[(slotM stgM j).view.set]{fullShare} f
/-- Slot `j` of device `c`'s landing buffer, with the contents `f`. -/
def rpPts (c : Dev nD) (j : Fin 16) (f : Vec F S256x1024 .bf16) : sProp (MT nD τ sig Unit (Elt F) ℕ UU ℕ) :=
  (slotM rpM j).view.loc (c : Thread nD τ) ↦[(slotM rpM j).view.set]{fullShare} f

omit [FloatOps F] in
instance stgPts_storable (c : Dev nD) (j : Fin 16) (f : Vec F S256x1024 .bf16) : BI.Storable (upEmb : UEmb _ 𝕄) (stgPts (F := F) c j f) := by
  unfold stgPts; infer_instance
omit [FloatOps F] in
instance rpPts_storable (c : Dev nD) (j : Fin 16) (f : Vec F S256x1024 .bf16) : BI.Storable (upEmb : UEmb _ 𝕄) (rpPts (F := F) c j f) := by
  unfold rpPts; infer_instance

/-- The elements of slot `j` of the landing buffer, -/
theorem slot_set (j : Fin 16) : (slotM rpM j).view.set = (slotR j).set := View.set_slice_whole _ _
/-- and of the staging buffer. -/
theorem stg_slot_set (j : Fin 16) : (slotM stgM j).view.set = (slotR j).set := View.set_slice_whole _ _

/-- Slot `j` of `c`'s staging buffer, landed in slot `c` of device `j`, is what that slot is to hold. -/
theorem landed_eq (c j : Dev nD) (fd : Vec F S256x1024 .bf16) :
    ((slotM rpM c).view.loc (j : Thread nD τ) ↦[(slotM rpM c).view.set]{fullShare}
        ((slotM rpM c).view.write (Elt F) fd ((slotM stgM j).view.read (Elt F) (stgV m c)) Finset.univ) : sProp (MT nD τ sig Unit (Elt F) ℕ UU ℕ))
      = rpPts j c (rpV m j) := by
  unfold rpPts
  refine pointsTo_congr fun i hi => ?_
  obtain ⟨x, -, rfl⟩ := Finset.mem_map.mp hi
  rw [View.write_emb_of_mem _ _ (Finset.mem_univ x), View.read_apply, cast_cast, cast_eq]
  have hc : c.val < 16 := c.isLt
  have hj : j.val < 16 := j.isLt
  have hx : (x 0).val < 16 := (x 0).isLt
  have e0 : (((slotM rpM c).view.emb x : S256x1024.Idx) 0).val = 16 * c.val + (x 0).val := by
    show 16 * c.val + 1 * (x 0).val = _; omega
  have e1 : (((slotM rpM c).view.emb x : S256x1024.Idx) 1).val = (x 1).val := by
    show 0 + 1 * (x 1).val = _; omega
  unfold rpV
  have hd : (⟨(((slotM rpM c).view.emb x : S256x1024.Idx) 0).val / 16, by rw [e0]; change _ < 16; omega⟩ : Dev nD) = c := Fin.ext (by
    show (((slotM rpM c).view.emb x : S256x1024.Idx) 0).val / 16 = c.val
    rw [e0]; omega)
  rw [hd]
  refine congrArg (stgV m c) ?_
  refine funext fun a => ?_
  match a with
  | ⟨0, _⟩ =>
    refine Fin.ext ?_
    show 16 * j.val + 1 * (x 0).val = 16 * j.val + (((slotM rpM c).view.emb x : S256x1024.Idx) 0).val % 16
    rw [e0]; omega
  | ⟨1, _⟩ =>
    refine Fin.ext ?_
    show 0 + 1 * (x 1).val = (((slotM rpM c).view.emb x : S256x1024.Idx) 1).val
    rw [e1]; omega

/-! ## The schedule -/

/-- What device `d`'s signal hands device `c`: slot `c` of `d`'s landing buffer, at any contents. -/
def barPay (c : Dev nD) (d : Fin 16) : sProp (MT nD τ sig Unit (Elt F) ℕ UU ℕ) := iprop(∃ f : Vec F S256x1024 .bf16, rpPts d c f)
/-- What the completion of a transfer hands the device its semaphore is on. -/
def xferPay (c : Dev nD) : Option (Fin 16 ⊕ Fin 16) → sProp (MT nD τ sig Unit (Elt F) ℕ UU ℕ)
  | some (.inl j) => stgPts c j (stgV m c)
  | some (.inr j) => rpPts c j (rpV m c)
  | none => iprop(emp)

instance xferPay_storable (c : Dev nD) (o : Option (Fin 16 ⊕ Fin 16)) : BI.Storable (upEmb : UEmb _ 𝕄) (xferPay (F := F) m c o) := by
  rcases o with _ | j | j <;> unfold xferPay <;> infer_instance
omit [FloatOps F] in
instance barPay_storable (c : Dev nD) (d : Fin 16) : BI.Storable (upEmb : UEmb _ 𝕄) (barPay (F := F) c d) := by
  unfold barPay; infer_instance

/-- One round. A barrier cell has one duty of one unit per device; a transfer cell one duty, of a transfer's credit. -/
def Rd : Rounds.Schedule (GSem nD τ sig) (Fin 16) (MT nD τ sig Unit (Elt F) ℕ UU ℕ) where
  duties g r := if r = 0 ∧ g.1.2 = .tc then (if g.2 = .reg barS then Finset.univ else if which g.2 = none then ∅ else {0}) else ∅
  unitless _ := False
  amount g _ _ := if g.2 = .reg barS then 1 else N
  payload g _ d := if g.2 = .reg barS then barPay g.1.1 d else xferPay m g.1.1 (which g.2)
  amount_pos g _ _ _ := by
    by_cases h : g.2 = .reg barS
    · rw [if_pos h]; exact Nat.one_pos
    · rw [if_neg h]; exact N_pos

instance Rd_payload_storable (g : GSem nD τ sig) (r : ℕ) (d : Fin 16) :
    BI.Storable (upEmb : UEmb _ 𝕄) ((Rd (F := F) m).payload g r d) := by
  show BI.Storable upEmb (if g.2 = .reg barS then barPay g.1.1 d else xferPay m g.1.1 (which g.2))
  split <;> infer_instance

section Sched
variable (c : Dev nD)

/-- Every device has a duty on a barrier cell; -/
theorem duties_bar : (Rd (F := F) m).duties (barCell c) 0 = Finset.univ := by
  dsimp only [Rd]; rw [if_pos ⟨rfl, rfl⟩, if_pos rfl]
/-- a transfer cell has one duty; -/
theorem duties_xfer (k : Fin 16 ⊕ Fin 16) : (Rd (F := F) m).duties ((c : Thread nD τ), osem k) 0 = {0} := by
  dsimp only [Rd]; rw [if_pos ⟨rfl, rfl⟩, if_neg (osem_ne_bar k), which_osem, if_neg (by simp)]
/-- and after the one round there are none. -/
theorem duties_later (g : GSem nD τ sig) : ∀ r, 1 ≤ r → (Rd (F := F) m).duties g r = ∅ :=
  fun r hr => by dsimp only [Rd]; rw [if_neg fun h => by omega]

/-- A signal is one unit; -/
theorem amount_bar (d : Fin 16) : (Rd (F := F) m).amount (barCell c) 0 d = 1 := by dsimp only [Rd]; exact if_pos rfl
/-- a transfer is one transfer's credit. -/
theorem amount_xfer (k : Fin 16 ⊕ Fin 16) (d : Fin 16) : (Rd (F := F) m).amount ((c : Thread nD τ), osem k) 0 d = N := by
  dsimp only [Rd]; exact if_neg (osem_ne_bar k)

/-- A barrier cell's round is sixteen units; -/
theorem expect_bar : (Rd (F := F) m).expect (barCell c) 0 = 16 := by
  unfold Schedule.expect Schedule.amountOf
  rw [duties_bar, Finset.sum_congr rfl fun d _ => amount_bar m c d, Finset.sum_const, Finset.card_univ, Fintype.card_fin, smul_eq_mul]
/-- a transfer cell's is one transfer's credit. -/
theorem expect_xfer (k : Fin 16 ⊕ Fin 16) : (Rd (F := F) m).expect ((c : Thread nD τ), osem k) 0 = N := by
  unfold Schedule.expect Schedule.amountOf; rw [duties_xfer, Finset.sum_singleton, amount_xfer]

/-- What a signal hands over; -/
theorem payload_bar (d : Fin 16) : (Rd (F := F) m).payload (barCell c) 0 d = barPay c d := by dsimp only [Rd]; exact if_pos rfl
/-- and what the completion of a transfer does. -/
theorem payload_xfer (k : Fin 16 ⊕ Fin 16) (d : Fin 16) : (Rd (F := F) m).payload ((c : Thread nD τ), osem k) 0 d = xferPay m c (some k) := by
  dsimp only [Rd]; rw [if_neg (osem_ne_bar k), which_osem]

/-- All of a barrier cell's round: every device's slot for `c`. -/
theorem rest_bar : bigSep ((Rd (F := F) m).duties (barCell c) 0 \ ∅) (fun d => (Rd (F := F) m).payload (barCell c) 0 d)
    = bigSep Finset.univ fun d : Fin 16 => barPay c d := by
  rw [Finset.sdiff_empty, duties_bar]; exact bigSep_congr fun d _ => payload_bar m c d
/-- All of a transfer cell's round: the slot of its one transfer. -/
theorem rest_xfer (k : Fin 16 ⊕ Fin 16) :
    bigSep ((Rd (F := F) m).duties ((c : Thread nD τ), osem k) 0 \ ∅) (fun d => (Rd (F := F) m).payload ((c : Thread nD τ), osem k) 0 d)
      = xferPay m c (some k) := by
  rw [Finset.sdiff_empty, duties_xfer, bigSep_singleton, payload_xfer]

end Sched

/-! ## What each device owes; the levels -/

/-- Device `c`'s transfers to devices `k` and on, and its signals to them. -/
def recvO (c : Dev nD) (k : ℕ) : CellTallies nD τ sig Unit := ∑ j ∈ rangeSet 16 k 16, tallyAt (recvCell j c) () N
/-- All its transfers, and its signals to devices `k` and on. -/
def sigO (c : Dev nD) (k : ℕ) : CellTallies nD τ sig Unit := recvO c 0 + ∑ j ∈ rangeSet 16 k 16, tallyAt (barCell j) () 1
/-- What a device owes at the start: every signal and every transfer. -/
def O₀ (c : Dev nD) : CellTallies nD τ sig Unit := sigO c 0

/-- A transfer done is owed no more; -/
theorem recvO_peel (c : Dev nD) {k : ℕ} (hk : k < 16) : recvO c k = recvO c (k + 1) + tallyAt (recvCell ⟨k, hk⟩ c) () N := by
  unfold recvO; rw [Ring.rangeSet_head hk hk, Finset.sum_insert (Ring.head_not_mem_rangeSet hk), add_comm]
/-- after sixteen nothing is. -/
theorem recvO_end (c : Dev nD) : recvO c 16 = 0 := by unfold recvO; rw [Ring.rangeSet_empty le_rfl, Finset.sum_empty]
/-- A signal made is owed no more; -/
theorem sigO_peel (c : Dev nD) {k : ℕ} (hk : k < 16) : sigO c k = sigO c (k + 1) + tallyAt (barCell ⟨k, hk⟩) () 1 := by
  unfold sigO; rw [Ring.rangeSet_head hk hk, Finset.sum_insert (Ring.head_not_mem_rangeSet hk), add_comm (tallyAt _ _ _), add_assoc]
/-- after sixteen only the transfers are. -/
theorem sigO_end (c : Dev nD) : sigO c 16 = recvO c 0 := by unfold sigO; rw [Ring.rangeSet_empty le_rfl, Finset.sum_empty, add_zero]

/-- Every cell of a device's core has one level label. -/
def L (g : GSem nD τ sig) : Finset Unit := if g.1.2 = .tc then {()} else ∅
/-- Barrier cells at 1, receive cells at 2, all others at 0. -/
def lv (g : GSem nD τ sig) (_ : Unit) : ℕ := if g.2 = .reg barS then 1 else match which g.2 with | some (.inr _) => 2 | _ => 0

/-- No other cell has a label; -/
theorem L_of_ne (g : GSem nD τ sig) (h : g.1.2 ≠ .tc) : L g = ∅ := if_neg h
/-- each of the core's has. -/
theorem L_tc (c : Dev nD) (sm : SemLoc sig) : L ((c : Thread nD τ), sm) = {()} := if_pos rfl
/-- The barrier's level is 1; -/
theorem lv_bar (c : Dev nD) : lv (barCell c) () = 1 := if_pos rfl
/-- a receive cell's is 2. -/
theorem lv_recv (c : Dev nD) (j : Fin 16) : lv (recvCell c j) () = 2 := by
  dsimp only [lv]; rw [if_neg (osem_ne_bar (.inr j)), which_recv]

/-- A sum of tallies is positive at the summed cells only. -/
theorem tally_sum_pos {S : Finset (Fin 16)} {f : Fin 16 → GSem nD τ sig} {n : ℕ} {g : GSem nD τ sig} {u : Unit}
    (h : 0 < (∑ j ∈ S, (tallyAt (f j) () n : CellTallies nD τ sig Unit)) g u) : ∃ j, g = f j := by
  by_contra hn
  rw [not_exists] at hn
  rw [Finset.sum_apply, Finsupp.finset_sum_apply, Finset.sum_eq_zero] at h
  · exact Nat.lt_irrefl 0 h
  · intro j _; rw [tallyAt_apply, if_neg (fun h' => hn j h'.1)]

/-- Of transfers a device owes receive cells only; -/
theorem recvO_pos {c : Dev nD} {k : ℕ} {g : GSem nD τ sig} {u : Unit} (h : 0 < recvO c k g u) : ∃ j, g = recvCell j c :=
  tally_sum_pos h
/-- at the start it owes receive cells and barrier cells only. -/
theorem O₀_pos {c : Dev nD} {g : GSem nD τ sig} {u : Unit} (h : 0 < O₀ c g u) : (∃ j, g = recvCell j c) ∨ ∃ j, g = barCell j := by
  unfold O₀ sigO at h
  rw [Pi.add_apply, Finsupp.add_apply] at h
  by_cases h1 : 0 < recvO c 0 g u
  · exact .inl (recvO_pos h1)
  · rw [Nat.eq_zero_of_not_pos h1, Nat.zero_add] at h; exact .inr (tally_sum_pos h)

end Cert.Moe

end
-- ==== Proof.Steps.lean ====
/-
One lemma per kind of step of the kernel's communication: a signal to a device, the wait on the barrier, a transfer
to a device, the wait for a transfer. Each is proved once, for any device and any peer, over the state the kernel
has reached after its first `k` steps of that kind.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (rangeSet)

variable {F : FTy → Type} [FloatOps F]

local notation "𝕄" => MT nD τ sig Unit (Elt F) ℕ UU ℕ

variable (m : (ℓ : Loc nD τ sig) → Buf (Elt F) ℓ)

/-! ## The waits the levels allow -/

/-- The waits of the pipeline's own copies are allowed at both ends. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact le_of_eq hq)
      (fun g u hg => by
        rcases O₀_pos hg with ⟨j, rfl⟩ | ⟨j, rfl⟩
        · rw [show lv (recvCell j c) u = 2 from lv_recv j c]; decide
        · rw [show lv (barCell j) u = 1 from lv_bar j]; decide)
  · rw [MayWait_zero]; iintro -; iempintro

/-- At its barrier wait a device owes receive cells only, which lie above. -/
theorem mayWait_bar (c : Dev nD) :
    (levAts L lv : sProp 𝕄) ⊢ MayWait (c : Thread nD τ) (.reg barS) () (recvO c 0) :=
  MayOwe.of_cut (L := L) (lev := lv) 1 (fun p hp => by rw [Finset.mem_singleton.mp hp, L_tc]; exact Finset.mem_singleton_self _)
    (fun g u hg => by obtain ⟨j, rfl⟩ := recvO_pos hg; exact Finset.mem_singleton_self _)
    (fun p hp => by rw [Finset.mem_singleton.mp hp]; exact le_of_eq (lv_bar c))
    (fun g u hg => by obtain ⟨j, rfl⟩ := recvO_pos hg; rw [show lv (recvCell j c) u = 2 from lv_recv j c]; decide)

/-! ## The invariants -/

/-- Every cell's invariant, under the names `K`, and that every cell has reached its round. -/
def records (K : Dev nD × Ck → ℕ) : sProp 𝕄 :=
  iprop((bigSep Finset.univ fun ck : Dev nD × Ck => cellInv ER (Rd m) (K ck) (kcell ck))
    ∗ bigSep Finset.univ fun ck : Dev nD × Ck => reached ER (kcell ck) 0)

instance records_persistent (K : Dev nD × Ck → ℕ) : BI.Persistent (records m K) := by unfold records; infer_instance

variable (K : Dev nD × Ck → ℕ)

/-- One cell's invariant out of all; -/
theorem inv_at (ck : Dev nD × Ck) :
    (bigSep Finset.univ fun ck : Dev nD × Ck => (cellInv ER (Rd m) (K ck) (kcell ck) : sProp 𝕄)) ⊢ cellInv ER (Rd m) (K ck) (kcell ck) :=
  bigSep_elim (Finset.mem_univ ck)
omit [FloatOps F] in
/-- one cell's reached round out of all. -/
theorem reached_at (ck : Dev nD × Ck) :
    (bigSep Finset.univ fun ck : Dev nD × Ck => (reached ER (kcell ck) 0 : sProp 𝕄)) ⊢ reached ER (kcell ck) 0 :=
  bigSep_elim (Finset.mem_univ ck)
/-- The records hold every cell's invariant, -/
theorem records_inv (ck : Dev nD × Ck) : records m K ⊢ cellInv ER (Rd m) (K ck) (kcell ck) := by
  unfold records
  iintro ⟨H, -⟩
  iapply (inv_at m K ck); iexact H
/-- and that every cell has reached its round. -/
theorem records_reached (ck : Dev nD × Ck) : records m K ⊢ reached ER (kcell ck) 0 := by
  unfold records
  iintro ⟨-, H⟩
  iapply (reached_at (F := F) ck); iexact H

/-! ## The signals -/

/-- Device `c` after signalling devices `0` to `k - 1`: what it still owes, the duty tokens of the signals to come, and
    the landing slots they will hand over. -/
def SigS (c : Dev nD) (k : ℕ) : sProp (MT nD τ sig Unit (Elt F) ℕ UU ℕ) :=
  iprop((∃ W, owes (c : Thread nD τ) (sigO c k) W)
    ∗ bigSep (rangeSet 16 k 16) fun j : Fin 16 => iprop(dutyTok ER (barCell j) 0 c ∗ barPay j c))

/-- The signal to device `n`. -/
theorem sig_step (c n : Dev nD) {a : ℕ} (ha : a = 1) {α : Type} {Q : α → sProp 𝕄} {k : PUnit → Prog (TpuEff nD τ sig (Elt F) Λ₀ .tc) α} :
    iprop(records m K ∗ SigS c n.val)
      ⊢ iprop((SigS c (n.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst ha
  have hn : n.val < 16 := n.isLt
  unfold SigS
  rw [Ring.bigSep_rangeSet_head hn hn]
  iintro ⟨#HR, ⟨⟨%W, HO⟩, ⟨Ht, Hp⟩, Hrest⟩⟩ Hk
  iapply (Rounds.wp_signal 𝒱₀ ER (Rd m) (c : Thread nD τ) none (dst := (n : Thread nD τ)) (κ := K (n, .inl ()))
      (d := c) (by rw [duties_bar]; exact Finset.mem_univ _) (amount_bar m n c) () (sigO c (n.val + 1)) (sigO_peel c hn)) $$ [HO Ht Hp]
  · isplitr; · iapply (records_inv m K (n, .inl ())); iexact HR
    isplitl [HO]; · iexact HO
    isplitl [Ht]; · iexact Ht
    isplitl [Hp]; · rw [payload_bar]; iexact Hp
    iapply (records_reached m K (n, .inl ())); iexact HR
  iintro HO
  iapply Hk
  isplitl [HO]; · iexists W; iexact HO
  iexact Hrest

/-! ## The transfers -/

/-- Device `c` after its transfers to devices `0` to `k - 1`: the tokens and the landing slots of the transfers to come,
    the credits of the send cells of those made. -/
def SendS (c : Dev nD) (k : ℕ) : sProp (MT nD τ sig Unit (Elt F) ℕ UU ℕ) :=
  iprop((∃ W, owes (c : Thread nD τ) (recvO c k) W)
    ∗ (bigSep (rangeSet 16 k 16) fun j : Fin 16 => iprop((dutyTok ER (sendCell c j) 0 0 ∗ dutyTok ER (recvCell j c) 0 0) ∗ barPay c j))
    ∗ bigSep (rangeSet 16 0 k) fun j : Fin 16 => cred (tallyAt (sendCell c j) () N))

/-- The device's slot starts at row `16 c`, -/
theorem off2_eq (c : Dev nD) : k0_off2 c = ![16 * c.val, 0] := by revert c; decide
/-- and its semaphore is the `c`-th. -/
theorem off1_eq (c : Dev nD) : k0_off1 c = ![c.val] := by revert c; decide

/-- The transfer to device `n`, from slot `n` of the staging buffer into slot `c` of `n`'s landing buffer; the offsets are
    variables, given by the equations. -/
theorem send_step (c n : Dev nD) {o₁ o₂ : Fin 2 → ℕ} {p₁ p₂ : Fin 1 → ℕ} (ho₁ : o₁ = ![16 * n.val, 0]) (ho₂ : o₂ = ![16 * c.val, 0])
    (hp₁ : p₁ = ![n.val]) (hp₂ : p₂ = ![c.val])
    {i₁ : ∀ a, o₁ a + S16x1024.size a ≤ S256x1024.size a} {i₂ : ∀ a, o₂ a + S16x1024.size a ≤ S256x1024.size a}
    {l₁ : ∀ a, p₁ a + S1.size a ≤ S16.size a} {l₂ : ∀ a, p₂ a + S1.size a ≤ S16.size a}
    {u₁ : ∀ a, (Rect.unit (s := S256x1024) o₁ S16x1024.size i₁).stride a = 1} {u₂ : ∀ a, (Rect.unit (s := S256x1024) o₂ S16x1024.size i₂).stride a = 1}
    {hsc} {hsrc} {hdst} {hsem}
    {α : Type} {Q : α → sProp 𝕄} {k : PUnit → Prog (TpuEff nD τ sig (Elt F) Λ₀ .tc) α} :
    iprop(records m K ∗ SendS c n.val ∗ stgPts c n (stgV m c))
      ⊢ iprop((SendS c (n.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgM.slice (Rect.unit (s := S256x1024) o₁ S16x1024.size i₁) u₁)
                (.remote (n : Thread nD τ) (rpM.slice (Rect.unit (s := S256x1024) o₂ S16x1024.size i₂) u₂)
                  (.dma ((cc0_scratch2.slice (Rect.unit (s := S16) p₁ S1.size l₁)).squeeze S_ squeezes_S1_S_ : DmaSems sig S_).sem) hsc)
                (.dma ((cc0_scratch3.slice (Rect.unit (s := S16) p₂ S1.size l₂)).squeeze S_ squeezes_S1_S_ : DmaSems sig S_).sem) hsrc hdst hsem) k) Q) := by
  subst ho₁ ho₂ hp₁ hp₂
  have hn : n.val < 16 := n.isLt
  unfold SendS stgPts
  rw [Ring.bigSep_rangeSet_head hn hn, Ring.bigSep_rangeSet_last (lo := 0) (hi := n.val + 1) (Nat.succ_pos _) hn]
  unfold barPay
  iintro ⟨#HR, ⟨⟨%W, HO⟩, ⟨⟨⟨HtS, HtR⟩, ⟨%fd, Hd⟩⟩, Hrest⟩, Hcr⟩, Hs⟩ Hk
  unfold rpPts
  iapply (Rounds.wp_send_pointsTo 𝒱₀ ER (Rd m) (c : Thread nD τ) none (κ₁ := K (c, .inr (.inl n))) (κ₂ := K (n, .inr (.inr c)))
    (r₁ := 0) (r₂ := 0) (d₁ := 0) (d₂ := 0) (fs := stgV m c) (fd := fd) (c' := (n : Thread nD τ))
    (src := slotM stgM n) (dst := slotM rpM c) (sS := .dma (sendS n)) (sem := .dma (recvS c))
    (by rw [duties_xfer m c (.inl n)]; exact Finset.mem_singleton_self _) (by rw [duties_xfer m n (.inr c)]; exact Finset.mem_singleton_self _)
    () () N rfl (amount_xfer m c (.inl n) 0) (amount_xfer m n (.inr c) 0) (recvO c (n.val + 1)) (recvO_peel c hn) (W := W)
    (by rw [payload_xfer m c (.inl n)]; exact BI.Entails.refl _)
    (by rw [payload_xfer m n (.inr c)]; exact Entails.of_eq (landed_eq m c n fd))) $$ [HtS HtR Hd Hs HO]
  · isplitr; · iapply (records_inv m K (c, .inr (.inl n))); iexact HR
    isplitr; · iapply (records_inv m K (n, .inr (.inr c))); iexact HR
    isplitl [Hs]; · iexact Hs
    isplitl [Hd]; · iexact Hd
    isplitl [HO]; · iexact HO
    isplitl [HtS]; · iexact HtS
    isplitr; · iapply (records_reached m K (c, .inr (.inl n))); iexact HR
    isplitl [HtR]; · iexact HtR
    iapply (records_reached m K (n, .inr (.inr c))); iexact HR
  iintro ⟨Hc1, HO⟩
  iapply Hk
  isplitl [HO]; · iexists W; iexact HO
  isplitl [Hrest]; · iexact Hrest
  isplitl [Hc1]; · iexact Hc1
  iexact Hcr

/-! ## The waits for transfers -/

/-- Device `c` after waiting for the first `k` transfers of a family (`t` its send cells or its receive cells): the credits
    and positions of the waits to come, what the waits made handed over. -/
def WaitS (t : Fin 16 → Fin 16 ⊕ Fin 16) (c : Dev nD) (k : ℕ) : sProp (MT nD τ sig Unit (Elt F) ℕ UU ℕ) :=
  iprop((∃ W, owes (c : Thread nD τ) 0 W)
    ∗ (bigSep (rangeSet 16 k 16) fun j : Fin 16 =>
        iprop(cred (tallyAt ((c : Thread nD τ), osem (t j)) () N) ∗ atPos ER ((c : Thread nD τ), osem (t j)) 0 ∅ 0))
    ∗ bigSep (rangeSet 16 0 k) fun j : Fin 16 => iprop(atPos ER ((c : Thread nD τ), osem (t j)) 1 ∅ 0 ∗ xferPay m c (some (t j))))

/-- The wait on a transfer cell of a device, of either kind. -/
theorem wait_step (t : Fin 16 → Fin 16 ⊕ Fin 16) (c : Dev nD) (j : Fin 16) {q : DmaSem sig} (hq : SemLoc.dma q = osem (t j))
    {e : EltTy} {s s' : Shape} {e' : EltTy} {src : Memref sig .tc .vmem s' e'} {dst : Memref sig .tc .vmem s e} (hN : dst.view.dmaCredit = N) {hsrc} {hdst}
    {α : Type} {Q : α → sProp 𝕄} {k : PUnit → Prog (TpuEff nD τ sig (Elt F) Λ₀ .tc) α} :
    iprop(records m K ∗ WaitS m t c j.val)
      ⊢ iprop((WaitS m t c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold WaitS
  rw [Ring.bigSep_rangeSet_head j.isLt j.isLt, Ring.bigSep_rangeSet_last (lo := 0) (hi := j.val + 1) (Nat.succ_pos _) j.isLt]
  iintro ⟨#HR, ⟨⟨%W, HO⟩, ⟨⟨Hc, Ha⟩, Hrest⟩, Hdone⟩⟩ Hk
  iapply (Rounds.wp_wait_rest_token 𝒱₀ ER (Rd m) (c : Thread nD τ) none (κ := K (c, .inr (t j)))
      (wpE_waitDma2_eq 𝒱₀ (c : Thread nD τ) none Set.univ) (Set.mem_univ _) () (O := 0) (W := W) (R := 0) (m := 0) (T := ∅)
      (by rw [Nat.zero_add, hq, expect_xfer, hN])) $$ [Hc HO Ha]
  · rw [hq, hN]
    isplitr; · iapply (records_inv m K (c, .inr (t j))); iexact HR
    isplitl [Hc]; · iexact Hc
    isplitl [HO]; · iexact HO
    isplitr; · rw [MayWait_zero]; iempintro
    iexact Ha
  rw [hq]
  iintro ⟨HO, Ha, -, Hpay⟩
  ihave Hp := (Entails.of_eq (rest_xfer m c (t j))) $$ Hpay
  iapply Hk
  isplitl [HO]; · iexists _; iexact HO
  isplitl [Hrest]; · iexact Hrest
  isplitl [Ha Hp]
  · isplitl [Ha]; · iexact Ha
    iexact Hp
  iexact Hdone

/-- A transfer into a slot of the landing buffer has the transfer's credit; -/
theorem credit_rp {o : Fin 2 → ℕ} {i : ∀ a, o a + S16x1024.size a ≤ S256x1024.size a} {u} :
    (rpM.slice (Rect.unit (s := S256x1024) o S16x1024.size i) u).view.dmaCredit = N := rfl
/-- so has one into a slot of the staging buffer. -/
theorem credit_stg {o : Fin 2 → ℕ} {i : ∀ a, o a + S16x1024.size a ≤ S256x1024.size a} {u} :
    (stgM.slice (Rect.unit (s := S256x1024) o S16x1024.size i) u).view.dmaCredit = N := rfl

/-- The wait on the receive cell `p 0`. -/
theorem recv_step (c : Dev nD) {p : Fin 1 → ℕ} {l : ∀ a, p a + S1.size a ≤ S16.size a}
    {o : Fin 2 → ℕ} {i : ∀ a, o a + S16x1024.size a ≤ S256x1024.size a} {u : ∀ a, (Rect.unit (s := S256x1024) o S16x1024.size i).stride a = 1}
    {s' : Shape} {e' : EltTy} {src : Memref sig .tc .vmem s' e'} {hsrc} {hdst}
    {α : Type} {Q : α → sProp 𝕄} {k : PUnit → Prog (TpuEff nD τ sig (Elt F) Λ₀ .tc) α} :
    iprop(records m K ∗ WaitS m .inr c (p 0))
      ⊢ iprop((WaitS m .inr c (p 0 + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ((cc0_scratch3.slice (Rect.unit (s := S16) p S1.size l)).squeeze S_ squeezes_S1_S_ : DmaSems sig S_).sem src
              (rpM.slice (Rect.unit (s := S256x1024) o S16x1024.size i) u) hsrc hdst) k) Q) := by
  have h0 : p 0 < 16 := l 0
  have hp : p = ![(⟨p 0, h0⟩ : Fin 16).val] := funext fun a => by fin_cases a; rfl
  generalize (⟨p 0, h0⟩ : Fin 16) = j at hp
  subst hp
  exact wait_step m K .inr c j (q := recvS j) rfl (src := src) (dst := rpM.slice (Rect.unit (s := S256x1024) o S16x1024.size i) u) credit_rp

/-- The wait on the send cell `p 0`. -/
theorem sent_step (c : Dev nD) {p : Fin 1 → ℕ} {l : ∀ a, p a + S1.size a ≤ S16.size a}
    {o : Fin 2 → ℕ} {i : ∀ a, o a + S16x1024.size a ≤ S256x1024.size a} {u : ∀ a, (Rect.unit (s := S256x1024) o S16x1024.size i).stride a = 1}
    {s' : Shape} {e' : EltTy} {src : Memref sig .tc .vmem s' e'} {hsrc} {hdst}
    {α : Type} {Q : α → sProp 𝕄} {k : PUnit → Prog (TpuEff nD τ sig (Elt F) Λ₀ .tc) α} :
    iprop(records m K ∗ WaitS m .inl c (p 0))
      ⊢ iprop((WaitS m .inl c (p 0 + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ((cc0_scratch2.slice (Rect.unit (s := S16) p S1.size l)).squeeze S_ squeezes_S1_S_ : DmaSems sig S_).sem src
              (stgM.slice (Rect.unit (s := S256x1024) o S16x1024.size i) u) hsrc hdst) k) Q) := by
  have h0 : p 0 < 16 := l 0
  have hp : p = ![(⟨p 0, h0⟩ : Fin 16).val] := funext fun a => by fin_cases a; rfl
  generalize (⟨p 0, h0⟩ : Fin 16) = j at hp
  subst hp
  exact wait_step m K .inl c j (q := sendS j) rfl (src := src) (dst := stgM.slice (Rect.unit (s := S256x1024) o S16x1024.size i) u) credit_stg

/-! ## The barrier wait -/

/-- The barrier wait: the device gets its slot on every device. -/
theorem bar_step (c : Dev nD) {a : ℕ} (ha : a = 16) {α : Type} {Q : α → sProp 𝕄} {k : PUnit → Prog (TpuEff nD τ sig (Elt F) Λ₀ .tc) α} :
    iprop(records m K ∗ levAts L lv ∗ SigS c 16 ∗ cred (tallyAt (barCell c) () 16) ∗ atPos ER (barCell c) 0 ∅ 0
        ∗ bigSep Finset.univ fun j : Fin 16 => iprop(dutyTok ER (sendCell c j) 0 0 ∗ dutyTok ER (recvCell j c) 0 0))
      ⊢ iprop(((SendS c 0 ∗ atPos ER (barCell c) 1 ∅ 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold SigS SendS
  rw [sigO_end, Ring.bigSep_rangeSet_empty (lo := 16) le_rfl, Ring.bigSep_rangeSet_empty (lo := 0) le_rfl,
    show rangeSet 16 0 16 = (Finset.univ : Finset (Fin 16)) from by decide]
  iintro ⟨#HR, #Hlev, ⟨⟨%W, HO⟩, -⟩, Hc, Ha, Ht⟩ Hk
  iapply (Rounds.wp_wait_rest_token 𝒱₀ ER (Rd m) (c : Thread nD τ) none (κ := K (c, .inl ()))
      (wpE_semWait_eq 𝒱₀ (c : Thread nD τ) none Set.univ) (Set.mem_univ _) () (O := recvO c 0) (W := W) (R := 0) (m := 0) (T := ∅)
      (by rw [expect_bar])) $$ [Hc HO Ha]
  · isplitr; · iapply (records_inv m K (c, .inl ())); iexact HR
    isplitl [Hc]; · iexact Hc
    isplitl [HO]; · iexact HO
    isplitr; · iapply (mayWait_bar c); iexact Hlev
    iexact Ha
  iintro ⟨HO, Ha, -, Hpay⟩
  ihave Hp := (Entails.of_eq (rest_bar m c)) $$ Hpay
  iapply Hk
  isplitr [Ha]
  · isplitl [HO]; · iexists _; iexact HO
    isplitl [Ht Hp]
    · rw [bigSep_sep' Finset.univ _ (fun j : Fin 16 => barPay c j)]
      isplitl [Ht]; · iexact Ht
      iexact Hp
    iempintro
  iexact Ha

end Cert.Moe

end
-- ==== Proof.Buffers.lean ====
/-
The two scratch buffers cut into rows: a whole buffer is its sixteen slots of sixteen rows, and the staging buffer is
also its four blocks of sixty-four rows, each of them four slots. A block just stored holds what the staging buffer is
to hold there.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet)

variable {F : FTy → Type} [FloatOps F]

local notation "𝕄" => MT nD τ sig Unit (Elt F) ℕ UU ℕ

variable (m : (ℓ : Loc nD τ sig) → Buf (Elt F) ℓ)

/-- Block `z` of device `c`'s staging buffer at contents `f`. -/
def blkPts (c : Dev nD) (z : Fin 4) (f : Vec F S256x1024 .bf16) : sProp (MT nD τ sig Unit (Elt F) ℕ UU ℕ) :=
  ((c : Thread nD τ).loc cc0_scratch0) ↦[(blkR z).set]{fullShare} f

/-- A row of a 256-row buffer is below 256. -/
theorem row_lt (i : S256x1024.Idx) : (i 0).val < 256 := (i 0).isLt

/-- Different slots share no element, -/
theorem slots_disjoint : ∀ a b : Fin 16, a ≠ b → Disjoint (slotR a).set (slotR b).set := fun a b hab => by
  rw [Finset.disjoint_left]
  intro i ha hb
  rw [mem_slotR] at ha hb
  exact hab (Fin.ext (by omega))

/-- and the sixteen slots make the buffer. -/
theorem slots_cover (i : S256x1024.Idx) : ∃ j : Fin 16, i ∈ (slotR j).set := by
  have := row_lt i
  refine ⟨⟨(i 0).val / 16, by omega⟩, ?_⟩
  rw [mem_slotR]; show 16 * ((i 0).val / 16) ≤ _ ∧ _ < 16 * ((i 0).val / 16) + 16; omega

/-- Different blocks share no element, -/
theorem blks_disjoint : ∀ a b : Fin 4, a ≠ b → Disjoint (blkR a).set (blkR b).set := fun a b hab => by
  rw [Finset.disjoint_left]
  intro i ha hb
  rw [mem_blkR] at ha hb
  exact hab (Fin.ext (by omega))

/-- and the four blocks make the buffer. -/
theorem blks_cover (i : S256x1024.Idx) : ∃ z : Fin 4, i ∈ (blkR z).set := by
  have := row_lt i
  refine ⟨⟨(i 0).val / 64, by omega⟩, ?_⟩
  rw [mem_blkR]; show 64 * ((i 0).val / 64) ≤ _ ∧ _ < 64 * ((i 0).val / 64) + 64; omega

/-- The `b`-th slot of block `z`. -/
abbrev slotOf (z b : Fin 4) : Fin 16 := ⟨4 * z.val + b.val, by omega⟩

/-- A block is made of its four slots. -/
theorem blk_cover (z : Fin 4) (i : S256x1024.Idx) : (∃ b : Fin 4, i ∈ (slotR (slotOf z b)).set) ↔ i ∈ (blkR z).set := by
  have := row_lt i
  rw [mem_blkR]
  constructor
  · rintro ⟨b, h⟩
    rw [mem_slotR] at h
    have h' : 16 * (4 * z.val + b.val) ≤ (i 0).val ∧ (i 0).val < 16 * (4 * z.val + b.val) + 16 := h
    omega
  · intro h
    refine ⟨⟨(i 0).val / 16 - 4 * z.val, by omega⟩, ?_⟩
    rw [mem_slotR]
    show 16 * (4 * z.val + ((i 0).val / 16 - 4 * z.val)) ≤ _ ∧ _ < 16 * (4 * z.val + ((i 0).val / 16 - 4 * z.val)) + 16
    omega

/-- Slot `j` of the staging buffer, as a set of elements. -/
theorem stg_slot (c : Dev nD) (j : Fin 16) (f : Vec F S256x1024 .bf16) :
    stgPts c j f = (((c : Thread nD τ).loc cc0_scratch0) ↦[(slotR j).set]{fullShare} f : sProp 𝕄) := by
  unfold stgPts; rw [stg_slot_set]
/-- Slot `j` of the landing buffer, as a set of elements. -/
theorem rp_slot (c : Dev nD) (j : Fin 16) (f : Vec F S256x1024 .bf16) :
    rpPts c j f = (((c : Thread nD τ).loc cc0_scratch1) ↦[(slotR j).set]{fullShare} f : sProp 𝕄) := by
  unfold rpPts; rw [slot_set]

/-- The staging buffer is its four blocks; -/
theorem stg_blks (c : Dev nD) (f : Vec F S256x1024 .bf16) :
    (((c : Thread nD τ).loc cc0_scratch0) ↦{fullShare} f : sProp 𝕄) = bigSep Finset.univ fun z : Fin 4 => blkPts c z f := by
  unfold blkPts
  have hc : Finset.univ.biUnion (β := Idx ((c : Thread nD τ).loc cc0_scratch0)) (fun z : Fin 4 => (blkR z).set) = Finset.univ :=
    Finset.eq_univ_iff_forall.mpr fun i => Finset.mem_biUnion.mpr ((blks_cover i).imp fun _ h => ⟨Finset.mem_univ _, h⟩)
  exact Ring.pointsTo_blocks (Ix := Unit) (Val := Elt F) (Name := ℕ) (U := UU) (Lvl := ℕ) (ℓ := (c : Thread nD τ).loc cc0_scratch0) (fun z : Fin 4 => (blkR z).set) blks_disjoint hc f

/-- it is its sixteen slots; -/
theorem stg_slots (c : Dev nD) (f : Vec F S256x1024 .bf16) :
    (((c : Thread nD τ).loc cc0_scratch0) ↦{fullShare} f : sProp 𝕄) = bigSep Finset.univ fun j : Fin 16 => stgPts c j f := by
  rw [bigSep_congr fun j _ => stg_slot c j f]
  have hc : Finset.univ.biUnion (β := Idx ((c : Thread nD τ).loc cc0_scratch0)) (fun j : Fin 16 => (slotR j).set) = Finset.univ :=
    Finset.eq_univ_iff_forall.mpr fun i => Finset.mem_biUnion.mpr ((slots_cover i).imp fun _ h => ⟨Finset.mem_univ _, h⟩)
  exact Ring.pointsTo_blocks (Ix := Unit) (Val := Elt F) (Name := ℕ) (U := UU) (Lvl := ℕ) (ℓ := (c : Thread nD τ).loc cc0_scratch0) (fun j : Fin 16 => (slotR j).set) slots_disjoint hc f

/-- so is the landing buffer. -/
theorem rp_slots (c : Dev nD) (f : Vec F S256x1024 .bf16) :
    (((c : Thread nD τ).loc cc0_scratch1) ↦{fullShare} f : sProp 𝕄) = bigSep Finset.univ fun j : Fin 16 => rpPts c j f := by
  rw [bigSep_congr fun j _ => rp_slot c j f]
  have hc : Finset.univ.biUnion (β := Idx ((c : Thread nD τ).loc cc0_scratch1)) (fun j : Fin 16 => (slotR j).set) = Finset.univ :=
    Finset.eq_univ_iff_forall.mpr fun i => Finset.mem_biUnion.mpr ((slots_cover i).imp fun _ h => ⟨Finset.mem_univ _, h⟩)
  exact Ring.pointsTo_blocks (Ix := Unit) (Val := Elt F) (Name := ℕ) (U := UU) (Lvl := ℕ) (ℓ := (c : Thread nD τ).loc cc0_scratch1) (fun j : Fin 16 => (slotR j).set) slots_disjoint hc f

/-- Different slots of one block share no element. -/
theorem slotOf_disjoint (z a b : Fin 4) (h : a ≠ b) : Disjoint (slotR (slotOf z a)).set (slotR (slotOf z b)).set :=
  slots_disjoint _ _ fun h' => h (Fin.ext (by
    have := congrArg Fin.val h'
    change 4 * z.val + a.val = 4 * z.val + b.val at this
    omega))

/-- A block of the staging buffer is its four slots. -/
theorem blk_slots (c : Dev nD) (z : Fin 4) (f : Vec F S256x1024 .bf16) :
    (blkPts c z f : sProp 𝕄) = bigSep Finset.univ fun b : Fin 4 => stgPts c (slotOf z b) f := by
  rw [bigSep_congr fun b _ => stg_slot c (slotOf z b) f]
  unfold blkPts
  have hc : Finset.univ.biUnion (β := Idx ((c : Thread nD τ).loc cc0_scratch0)) (fun b : Fin 4 => (slotR (slotOf z b)).set) = (blkR z).set :=
    Finset.ext fun i => Finset.mem_biUnion.trans ⟨fun ⟨b, _, h⟩ => (blk_cover z i).mp ⟨b, h⟩,
      fun h => ((blk_cover z i).mpr h).imp fun _ h => ⟨Finset.mem_univ _, h⟩⟩
  exact Ring.pointsTo_sub_blocks (Ix := Unit) (Val := Elt F) (Name := ℕ) (U := UU) (Lvl := ℕ) (ℓ := (c : Thread nD τ).loc cc0_scratch0) (fun b : Fin 4 => (slotR (slotOf z b)).set) (slotOf_disjoint z) (blkR z).set hc f

/-- A separating conjunction over four indices, written out. -/
theorem bigSep_four (Φ : Fin 4 → sProp 𝕄) : bigSep Finset.univ Φ = iprop(Φ 0 ∗ Φ 1 ∗ Φ 2 ∗ Φ 3) := by
  rw [bigSep_eq_bigSepL_of_eq [0, 1, 2, 3] (by decide) (by decide)]
  rfl

/-- A block, stored, holds what the staging buffer is to hold there. -/
theorem blk_stored (c : Dev nD) (z : Fin 4) (f : Vec F S256x1024 .bf16) :
    (((c : Thread nD τ).loc cc0_scratch0) ↦[(blkR z).set]{fullShare}
        ((stgM.access (blkR z)).write (Elt F) f (stageBlk (me c) (xV m c) (rwV m c) (rtV m c) (ewV m c) z) Finset.univ) : sProp 𝕄)
      = blkPts c z (stgV m c) := by
  unfold blkPts
  refine pointsTo_congr fun i hi => ?_
  have hi' : i ∈ (stgM.access (blkR z)).set := by
    rw [show (stgM.access (blkR z)).set = (blkR z).set from View.set_slice_whole _ _]; exact hi
  obtain ⟨x, -, rfl⟩ := Finset.mem_map.mp hi'
  rw [View.write_emb_of_mem _ _ (Finset.mem_univ x)]
  have hx : (x 0).val < 64 := (x 0).isLt
  have e0 : (((stgM.access (blkR z)).emb x : S256x1024.Idx) 0).val = 64 * z.val + (x 0).val := by
    show 64 * z.val + 1 * (x 0).val = _; omega
  have e1 : (((stgM.access (blkR z)).emb x : S256x1024.Idx) 1).val = (x 1).val := by
    show 0 + 1 * (x 1).val = _; omega
  unfold stgV stage
  have hz : (⟨(((stgM.access (blkR z)).emb x : S256x1024.Idx) 0).val / 64, by rw [e0]; omega⟩ : Fin 4) = z := Fin.ext (by
    show (((stgM.access (blkR z)).emb x : S256x1024.Idx) 0).val / 64 = z.val
    rw [e0]; omega)
  rw [hz]
  refine (cast_eq _ _).trans (congrArg (stageBlk (me c) (xV m c) (rwV m c) (rtV m c) (ewV m c) z) ?_)
  refine funext fun a => ?_
  match a with
  | ⟨0, _⟩ =>
    refine Fin.ext ?_
    show (x 0).val = (((stgM.access (blkR z)).emb x : S256x1024.Idx) 0).val % 64
    rw [e0]; omega
  | ⟨1, _⟩ =>
    refine Fin.ext ?_
    show (x 1).val = (((stgM.access (blkR z)).emb x : S256x1024.Idx) 1).val
    rw [e1]

/-- The numbers the kernel's signals and transfers address are the sixteen devices in turn. -/
theorem sig_devs : (⟨k0_dev1, k0_dev1_lt⟩ : Dev nD) = 0 ∧ (⟨k0_dev2, k0_dev2_lt⟩ : Dev nD) = 1 ∧ (⟨k0_dev3, k0_dev3_lt⟩ : Dev nD) = 2
    ∧ (⟨k0_dev4, k0_dev4_lt⟩ : Dev nD) = 3 ∧ (⟨k0_dev5, k0_dev5_lt⟩ : Dev nD) = 4 ∧ (⟨k0_dev6, k0_dev6_lt⟩ : Dev nD) = 5
    ∧ (⟨k0_dev7, k0_dev7_lt⟩ : Dev nD) = 6 ∧ (⟨k0_dev8, k0_dev8_lt⟩ : Dev nD) = 7 ∧ (⟨k0_dev9, k0_dev9_lt⟩ : Dev nD) = 8
    ∧ (⟨k0_dev10, k0_dev10_lt⟩ : Dev nD) = 9 ∧ (⟨k0_dev11, k0_dev11_lt⟩ : Dev nD) = 10 ∧ (⟨k0_dev12, k0_dev12_lt⟩ : Dev nD) = 11
    ∧ (⟨k0_dev13, k0_dev13_lt⟩ : Dev nD) = 12 ∧ (⟨k0_dev14, k0_dev14_lt⟩ : Dev nD) = 13 ∧ (⟨k0_dev15, k0_dev15_lt⟩ : Dev nD) = 14
    ∧ (⟨k0_dev16, k0_dev16_lt⟩ : Dev nD) = 15 := by decide +kernel
/-- The devices that the sends name, in order. -/
theorem send_devs : (⟨k0_dev17, k0_dev17_lt⟩ : Dev nD) = 0 ∧ (⟨k0_dev18, k0_dev18_lt⟩ : Dev nD) = 1 ∧ (⟨k0_dev19, k0_dev19_lt⟩ : Dev nD) = 2
    ∧ (⟨k0_dev20, k0_dev20_lt⟩ : Dev nD) = 3 ∧ (⟨k0_dev21, k0_dev21_lt⟩ : Dev nD) = 4 ∧ (⟨k0_dev22, k0_dev22_lt⟩ : Dev nD) = 5
    ∧ (⟨k0_dev23, k0_dev23_lt⟩ : Dev nD) = 6 ∧ (⟨k0_dev24, k0_dev24_lt⟩ : Dev nD) = 7 ∧ (⟨k0_dev25, k0_dev25_lt⟩ : Dev nD) = 8
    ∧ (⟨k0_dev26, k0_dev26_lt⟩ : Dev nD) = 9 ∧ (⟨k0_dev27, k0_dev27_lt⟩ : Dev nD) = 10 ∧ (⟨k0_dev28, k0_dev28_lt⟩ : Dev nD) = 11
    ∧ (⟨k0_dev29, k0_dev29_lt⟩ : Dev nD) = 12 ∧ (⟨k0_dev30, k0_dev30_lt⟩ : Dev nD) = 13 ∧ (⟨k0_dev31, k0_dev31_lt⟩ : Dev nD) = 14
    ∧ (⟨k0_dev32, k0_dev32_lt⟩ : Dev nD) = 15 := by decide +kernel

end Cert.Moe

end
-- ==== Proof.Body.lean ====
/-
The kernel's body on one device, run symbolically once, for any device and any float values: from the buffers and
tokens a device starts with to its staging buffer, landing buffer and block of the result as `Values` names them,
and all its semaphores back at zero.
-/
module

public import proofs.«01_k».proof.Proof.Buffers
public import Idealize.ShloMosaic.Lib.Rounds.Family

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)

/-- The state before the launch. -/
def s₀ : MemSt nD τ sig (Elt F) := ⟨m, fun _ => 0, ρ⟩

/-- The one grid point. -/
abbrev t₀ : Fin cfg0.N := ⟨0, by decide⟩
/-- The grid has one point. -/
theorem fin_N (t : Fin cfg0.N) : t = t₀ := Fin.ext (by have h : t.val < 1 := t.isLt; show t.val = 0; omega)

/-- Device `c`'s block of the result. -/
def outV (c : Dev nD) : Vec F S64x1024 .f32 := result c (xV m c) (rtV m c) (swV m c) (rpV m c)

/-- A device's tokens: one per signal it sends, and two per transfer it starts, one for each end. -/
def payToks (c : Dev nD) : sProp (MT nD τ sig Unit (Elt F) ℕ UU ℕ) :=
  iprop((bigSep Finset.univ fun j : Fin 16 => dutyTok ER (barCell j) 0 c)
    ∗ bigSep Finset.univ fun j : Fin 16 => iprop(dutyTok ER (sendCell c j) 0 0 ∗ dutyTok ER (recvCell j c) 0 0))

/-- A device's positions in its own cells' rounds. -/
def posAt (c : Dev nD) : sProp (MT nD τ sig Unit (Elt F) ℕ UU ℕ) :=
  bigSep Finset.univ fun k : Ck => atPos ER (kcell (c, k)) 0 ∅ 0

/-- What a device's protocol starts from, at the names `K` the invariants have. -/
def ghost (K : Dev nD × Ck → ℕ) (c : Dev nD) : sProp (MT nD τ sig Unit (Elt F) ℕ UU ℕ) :=
  iprop(records m K ∗ posAt c ∗ payToks c)

/-- What a device's body starts from: that, at some names, with the credit its own waits draw on and the levels. -/
def start (c : Dev nD) : sProp (MT nD τ sig Unit (Elt F) ℕ UU ℕ) :=
  iprop((∃ K, ghost m K c) ∗ cred (tallyAt (barCell c) () 16)
    ∗ (bigSep Finset.univ fun j : Fin 16 => cred (tallyAt (recvCell c j) () N)) ∗ levAts L lv)

/-- The two scratch buffers at some contents. -/
def scratch (c : Dev nD) : sProp (MT nD τ sig Unit (Elt F) ℕ UU ℕ) :=
  iprop((∃ f, ((c : Thread nD τ).loc cc0_scratch0) ↦{fullShare} f) ∗ (∃ f, ((c : Thread nD τ).loc cc0_scratch1) ↦{fullShare} f))

/-- What a device holds before the body: its start and the two scratch buffers. -/
def Φ₀ (c : Dev nD) : sProp (MT nD τ sig Unit (Elt F) ℕ UU ℕ) := iprop(start m c ∗ scratch c)
/-- After the body: the scratch buffers again, and every semaphore of the device at zero. -/
def Φ₁ (c : Dev nD) : sProp (MT nD τ sig Unit (Elt F) ℕ UU ℕ) :=
  iprop(scratch c ∗ (bigSep Finset.univ fun k : Fin 16 ⊕ Fin 16 => semVal ((c : Thread nD τ), osem k) 0) ∗ semVal (barCell c) 0)

/-- The region's data: what each window holds before and after the body, and what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => rwV m c
    | ⟨2, _⟩ => rtV m c
    | ⟨3, _⟩ => ewV m c
    | ⟨4, _⟩ => swV m c
    | ⟨5, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer with given contents is a points-to of those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer with given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## What the loads read and the stores leave -/

/-- The zero offset, as the loads spell it. -/
theorem hz2 : (![0, 0] : Fin 2 → ℕ) = fun _ => 0 := funext fun a => by fin_cases a <;> rfl

/-- A load of the whole of the tokens' buffer reads its contents; -/
theorem read_x (f : (cc0_stg0_0 : Ref sig .tc).ty.Contents (Elt F)) (h) :
    (Memref.whole cc0_stg0_0 : Memref sig .tc .vmem S1024x512 .f32).view.readAt (Elt F) (Rect.unit (s := S1024x512) ![0, 0] S1024x512.size h).toLoadRect f = f :=
  Memref.readAt_unit_zero (Elt F) cc0_stg0_0 hz2 _ f
/-- so for the router's weights, -/
theorem read_rw (f : (cc0_stg1_0 : Ref sig .tc).ty.Contents (Elt F)) (h) :
    (Memref.whole cc0_stg1_0 : Memref sig .tc .vmem S512x64 .f32).view.readAt (Elt F) (Rect.unit (s := S512x64) ![0, 0] S512x64.size h).toLoadRect f = f :=
  Memref.readAt_unit_zero (Elt F) cc0_stg1_0 hz2 _ f
/-- the experts' numbers, -/
theorem read_rt (f : (cc0_stg2_0 : Ref sig .tc).ty.Contents (Elt F)) (h) :
    (Memref.whole cc0_stg2_0 : Memref sig .tc .vmem S1024x1 .i32).view.readAt (Elt F) (Rect.unit (s := S1024x1) ![0, 0] S1024x1.size h).toLoadRect f = f :=
  Memref.readAt_unit_zero (Elt F) cc0_stg2_0 hz2 _ f
/-- the shared weights -/
theorem read_sw (f : (cc0_stg4_0 : Ref sig .tc).ty.Contents (Elt F)) (h) :
    (Memref.whole cc0_stg4_0 : Memref sig .tc .vmem S512x1024 .f32).view.readAt (Elt F) (Rect.unit (s := S512x1024) ![0, 0] S512x1024.size h).toLoadRect f = f :=
  Memref.readAt_unit_zero (Elt F) cc0_stg4_0 hz2 _ f
/-- and the landing buffer. -/
theorem read_rp (f : (cc0_scratch1 : Ref sig .tc).ty.Contents (Elt F)) (h) :
    (Memref.whole cc0_scratch1 : Memref sig .tc .vmem S256x1024 .bf16).view.readAt (Elt F) (Rect.unit (s := S256x1024) ![0, 0] S256x1024.size h).toLoadRect f = f :=
  Memref.readAt_unit_zero (Elt F) cc0_scratch1 hz2 _ f
/-- A store over the whole of the result's buffer leaves what is stored. -/
theorem write_out (f w : (cc0_stg5_0 : Ref sig .tc).ty.Contents (Elt F)) (h) :
    ((Memref.whole cc0_stg5_0 : Memref sig .tc .vmem S64x1024 .f32).access (Rect.unit (s := S64x1024) ![0, 0] S64x1024.size h) : View sig .tc _ _ _).write (Elt F) f w Finset.univ = w :=
  Memref.write_access_unit_zero_univ (Elt F) cc0_stg5_0 hz2 _ f w

variable (K : Dev nD × Ck → ℕ)

/-- The rows that a store into block `z` touches are the block's. -/
theorem blk_sub (z : Fin 4) : (stgM.view.setOn (blkR z).toLoadRect.set) ⊆ (blkR z).set := by
  rw [show stgM.view.setOn (blkR z).toLoadRect.set = (stgM.access (blkR z)).set from (View.set_slice _ _).symm]
  exact Finset.Subset.refl _ |>.trans (by rw [show (stgM.access (blkR z)).set = (blkR z).set from View.set_slice_whole _ _])

/-- Storing a block: the load before the store is dead. -/
theorem store_step (c : Dev nD) (z : Fin 4) {o o' : Fin 2 → ℕ} (ho : o = ![64 * z.val, 0]) (ho' : o' = ![64 * z.val, 0])
    {i : ∀ a, o a + S64x1024.size a ≤ S256x1024.size a} {i' : ∀ a, o' a + S64x1024.size a ≤ S256x1024.size a} {hl} {hx} {hm}
    {w : Vec F S64x1024 .bf16} (hw : w = stageBlk (me c) (xV m c) (rwV m c) (rtV m c) (ewV m c) z)
    {f : Vec F S256x1024 .bf16} {α : Type} {Q : α → sProp 𝕄} {k : PUnit → Prog (TpuEff nD τ sig (Elt F) Λ₀ .tc) α} :
    blkPts c z f
      ⊢ iprop(((stgPts c (slotOf z 0) (stgV m c) ∗ stgPts c (slotOf z 1) (stgV m c) ∗ stgPts c (slotOf z 2) (stgV m c) ∗ stgPts c (slotOf z 3) (stgV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load stgM (Rect.unit (s := S256x1024) o S64x1024.size i).toLoadRect hl) fun _ =>
                .op (.store stgM (Rect.unit (s := S256x1024) o' S64x1024.size i') w Finset.univ hx hm) k) Q) := by
  subst ho ho' hw
  rw [← bigSep_four (fun b => stgPts c (slotOf z b) (stgV m c)), ← blk_slots c z (stgV m c), ← blk_stored m c z f]
  unfold blkPts
  iintro H Hk
  iapply (wp_load 𝒱₀ (c : Thread nD τ) none Set.univ (m := stgM) (blk_sub z)) $$ H; iintro H
  iapply (wp_store 𝒱₀ (c : Thread nD τ) none Set.univ (m := stgM) (r := blkR z) (Mk := Finset.univ)
    (by rw [View.setOn_univ, show (stgM.access (blkR z)).set = (blkR z).set from View.set_slice_whole _ _])) $$ H
  iintro H
  iapply Hk; iexact H

/-- What a device holds when the body starts, -/
def bodyPre (c : Dev nD) : sProp (MT nD τ sig Unit (Elt F) ℕ UU ℕ) :=
  iprop((ghost m K c ∗ cred (tallyAt (barCell c) () 16)
      ∗ (bigSep Finset.univ fun j : Fin 16 => cred (tallyAt (recvCell c j) () N)) ∗ levAts L lv ∗ scratch c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- and when it ends. -/
def bodyPost (c : Dev nD) : sProp (MT nD τ sig Unit (Elt F) ℕ UU ℕ) :=
  iprop(Φ₁ c ∗ (dats m ρ 0 c).owesAt () t₀.succ ∗ stg c cc0_stg0_0 (xV m c) ∗ stg c cc0_stg1_0 (rwV m c) ∗ stg c cc0_stg2_0 (rtV m c)
    ∗ stg c cc0_stg3_0 (ewV m c) ∗ stg c cc0_stg4_0 (swV m c) ∗ stg c cc0_stg5_0 (outV m c))

/-- The positions of a device's cells, kind by kind. -/
theorem posAt_eq (c : Dev nD) : (posAt c : sProp 𝕄)
    = iprop(atPos ER (barCell c) 0 ∅ 0 ∗ (bigSep Finset.univ fun j : Fin 16 => atPos ER (sendCell c j) 0 ∅ 0)
        ∗ bigSep Finset.univ fun j : Fin 16 => atPos ER (recvCell c j) 0 ∅ 0) := by
  unfold posAt
  rw [bigSep_univ_sum, bigSep_univ_sum]
  rw [bigSep_eq_bigSepL_of_eq [()] (by decide) (by decide)]
  rfl

/-- The landing buffer's slots, at whatever contents, are what the device's signals hand out. -/
theorem rp_any (c : Dev nD) (f : Vec F S256x1024 .bf16) :
    (bigSep Finset.univ fun j : Fin 16 => rpPts c j f) ⊢ (bigSep Finset.univ fun j : Fin 16 => barPay j c : sProp 𝕄) :=
  bigSep_mono fun j _ => show rpPts c j f ⊢ (barPay j c : sProp 𝕄) by unfold barPay; iintro H; iexists f; iexact H

/-- Before the first signal. -/
theorem sigS_intro (c : Dev nD) (W : Waits sig Unit) (f : Vec F S256x1024 .bf16) :
    iprop(owes (c : Thread nD τ) (O₀ c) W ∗ (bigSep Finset.univ fun j : Fin 16 => dutyTok ER (barCell j) 0 c)
        ∗ (((c : Thread nD τ).loc cc0_scratch1) ↦{fullShare} f)) ⊢ (SigS c 0 : sProp 𝕄) := by
  unfold SigS O₀
  rw [Ring.rangeSet_univ, rp_slots, bigSep_sep']
  iintro ⟨HO, Ht, Hp⟩
  isplitl [HO]; · iexists W; iexact HO
  isplitl [Ht]; · iexact Ht
  iapply (rp_any c f)
  iexact Hp

/-- After the last transfer is started. -/
theorem sendS_end (c : Dev nD) {k : ℕ} (hk : k = 16) : SendS c k ⊢ (iprop((∃ W, owes (c : Thread nD τ) 0 W)
    ∗ bigSep Finset.univ fun j : Fin 16 => cred (tallyAt (sendCell c j) () N)) : sProp 𝕄) := by
  subst hk
  unfold SendS
  rw [recvO_end, Ring.rangeSet_univ]
  iintro ⟨HO, -, Hc⟩
  isplitl [HO]; · iexact HO
  iexact Hc

/-- Before the first wait of a kind. -/
theorem waitS_intro (t : Fin 16 → Fin 16 ⊕ Fin 16) (c : Dev nD) :
    iprop((∃ W, owes (c : Thread nD τ) 0 W) ∗ (bigSep Finset.univ fun j : Fin 16 => cred (tallyAt ((c : Thread nD τ), osem (t j)) () N))
        ∗ bigSep Finset.univ fun j : Fin 16 => atPos ER ((c : Thread nD τ), osem (t j)) 0 ∅ 0) ⊢ WaitS m t c 0 := by
  unfold WaitS
  rw [Ring.rangeSet_univ, Ring.bigSep_rangeSet_empty (lo := 0) le_rfl, bigSep_sep']
  iintro ⟨HO, Hc, Ha⟩
  isplitl [HO]; · iexact HO
  isplitl [Hc Ha]
  · isplitl [Hc]; · iexact Hc
    iexact Ha
  iempintro

/-- After the last wait of a kind. -/
theorem waitS_elim (t : Fin 16 → Fin 16 ⊕ Fin 16) (c : Dev nD) {k : ℕ} (hk : k = 16) :
    WaitS m t c k ⊢ iprop((∃ W, owes (c : Thread nD τ) 0 W) ∗ (bigSep Finset.univ fun j : Fin 16 => atPos ER ((c : Thread nD τ), osem (t j)) 1 ∅ 0)
        ∗ bigSep Finset.univ fun j : Fin 16 => xferPay m c (some (t j))) := by
  subst hk
  unfold WaitS
  rw [Ring.rangeSet_univ, Ring.bigSep_rangeSet_empty (lo := 16) le_rfl, bigSep_sep']
  iintro ⟨HO, -, Ha, Hp⟩
  isplitl [HO]; · iexact HO
  isplitl [Ha]; · iexact Ha
  iexact Hp

/-- The invariants of a device's transfer cells of one kind. -/
theorem records_kind (t : Fin 16 → Fin 16 ⊕ Fin 16) (c : Dev nD) :
    records m K ⊢ bigSep Finset.univ fun j : Fin 16 => cellInv ER (Rd m) (K (c, .inr (t j))) ((c : Thread nD τ), osem (t j)) :=
  bigSep_intro_persistent fun j _ => records_inv m K (c, .inr (t j))

/-- A device's transfer cells at zero, kind by kind. -/
theorem osems_eq (c : Dev nD) : (bigSep Finset.univ fun k : Fin 16 ⊕ Fin 16 => semVal ((c : Thread nD τ), osem k) 0 : sProp 𝕄)
    = iprop((bigSep Finset.univ fun j : Fin 16 => semVal ((c : Thread nD τ), osem (.inl j)) 0)
        ∗ bigSep Finset.univ fun j : Fin 16 => semVal ((c : Thread nD τ), osem (.inr j)) 0) := bigSep_univ_sum _

/-- The slots the transfers hand back are the two buffers whole. -/
theorem rp_back (c : Dev nD) : (bigSep Finset.univ fun j : Fin 16 => xferPay m c (some (.inr j)))
    ⊢ (((c : Thread nD τ).loc cc0_scratch1) ↦{fullShare} (rpV m c) : sProp 𝕄) := by
  rw [rp_slots]; exact BI.Entails.refl _
/-- The slots that the sends hand back are the staging buffer whole. -/
theorem stg_back (c : Dev nD) : (bigSep Finset.univ fun j : Fin 16 => xferPay m c (some (.inl j)))
    ⊢ (((c : Thread nD τ).loc cc0_scratch0) ↦{fullShare} (stgV m c) : sProp 𝕄) := by
  rw [stg_slots]; exact BI.Entails.refl _

/-- A device's transfer cells of one kind close at zero. -/
theorem close_kind (t : Fin 16 → Fin 16 ⊕ Fin 16) (c : Dev nD) :
    iprop(records m K ∗ bigSep Finset.univ fun j : Fin 16 => atPos ER ((c : Thread nD τ), osem (t j)) 1 ∅ 0)
      ⊢ |={Set.univ}=> bigSep Finset.univ fun j : Fin 16 => semVal ((c : Thread nD τ), osem (t j)) 0 := by
  refine BI.Entails.trans ?_ (cells_close ER (Rd m) Finset.univ (fun j : Fin 16 => ((c : Thread nD τ), osem (t j))) (fun j => K (c, .inr (t j)))
    (fun _ _ => Set.mem_univ _) (fun _ _ h => h) (fun _ => 1) fun _ _ => duties_later m _)
  rw [bigSep_sep']
  show iprop(records m K ∗ bigSep Finset.univ fun j : Fin 16 => atPos ER ((c : Thread nD τ), osem (t j)) 1 ∅ 0) ⊢ _
  iintro ⟨#HR, Ha⟩
  isplitr [Ha]
  · iapply (records_kind m K t c); iexact HR
  iexact Ha

section Run

set_option maxHeartbeats 4000000
set_option maxRecDepth 8000

/-- The body, run from `bodyPre` to `bodyPost`, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) Kt := by
  unfold bodyPre ghost payToks scratch
  rw [posAt_eq]
  iintro ⟨⟨⟨⟨#HR, ⟨HaB, HaS, HaV⟩, HtB, HtX⟩, HcB, HcV, #Hlev, ⟨%f0, Hst⟩, ⟨%f1, Hrp⟩⟩, Ho, ⟨%d0, %g0, %h0, Hx⟩, ⟨%d1, %g1, %h1, Hw⟩,
    ⟨%d2, %g2, %h2, Hr⟩, ⟨%d3, %g3, %h3, He⟩, ⟨%d4, %g4, %h4, Hs⟩, ⟨%d5, %g5, %h5, Hout⟩⟩, Hk⟩
  have e0 : g0 = xV m c := by rw [h0]; unfold Dat.before; rw [if_pos (fetch0_0 t₀)]; rfl
  have e1 : g1 = rwV m c := by rw [h1]; unfold Dat.before; rw [if_pos (fetch0_1 t₀)]; rfl
  have e2 : g2 = rtV m c := by rw [h2]; unfold Dat.before; rw [if_pos (fetch0_2 t₀)]; rfl
  have e3 : g3 = ewV m c := by rw [h3]; unfold Dat.before; rw [if_pos (fetch0_3 t₀)]; rfl
  have e4 : g4 = swV m c := by rw [h4]; unfold Dat.before; rw [if_pos (fetch0_4 t₀)]; rfl
  subst e0 e1 e2 e3 e4
  unfold Dat.owesAt Pipeline.owesWithin
  icases Ho with ⟨%W, %hW, HO⟩
  rw [show (dats m ρ 0 c).owed t₀.castSucc = O₀ c from rfl]
  ihave HS := (sigS_intro (F := F) c W f1) $$ [HO HtB Hrp]
  · isplitl [HO]; · iexact HO
    isplitl [HtB]; · iexact HtB
    iexact Hrp
  ihave Hst' := (Entails.of_eq ((stg_blks c f0).trans (bigSep_four _))) $$ Hst
  icases Hst' with ⟨Hb0, Hb1, Hb2, Hb3⟩
  simp only [cc0_body_eq_skeleton]; unfold cc0_body_skel
  rw [wp_bind, k0_part24_eq_skeleton]
  unfold k0_part24_skel
  -- the sixteen signals
  rw [wp_bind, k0_part1_eq_skeleton]; unfold k0_part1_skel
  simp only [semSignalWord, Prog.lift, Prog.bind_op, Prog.bind_ret, Prog.pure_eq_ret, wp_deviceId, sig_devs]
  iterate 7
    iapply (sig_step m K c _ (by rfl)) $$ [HS]
    · isplitr; · iexact HR
      iexact HS
    iintro HS
  rw [wp_ret]; imodintro
  rw [wp_bind, k0_part2_eq_skeleton]; unfold k0_part2_skel
  simp only [semSignalWord, Prog.lift, Prog.bind_op, Prog.bind_ret, Prog.pure_eq_ret, sig_devs]
  iterate 9
    iapply (sig_step m K c _ (by rfl)) $$ [HS]
    · isplitr; · iexact HR
      iexact HS
    iintro HS
  rw [wp_ret]; imodintro
  -- the routes, the ranks, the gathered tokens
  rw [wp_bind, k0_part3_eq_skeleton]; unfold k0_part3_skel
  simp only [Prog.lift, Prog.bind_op, Prog.bind_ret, Prog.pure_eq_ret]
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hw; iintro Hw
  iapply (wp_load 𝒱₀ (c : Thread nD τ) none Set.univ (m := Memref.whole cc0_stg2_0) (Finset.subset_univ _)) $$ Hr; iintro Hr
  rw [read_x, read_rw, read_rt, wp_ret]; imodintro
  rw [wp_bind, k0_part4_eq_skeleton]; unfold k0_part4_skel
  rw [Prog.pure_eq_ret, wp_ret]; imodintro
  -- the four experts
  rw [wp_bind, k0_part5_eq_skeleton]; unfold k0_part5_skel
  simp only [Prog.lift, Prog.bind_op, Prog.bind_ret, Prog.pure_eq_ret]
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  rw [wp_ret]; imodintro
  rw [wp_bind, k0_part6_eq_skeleton]; unfold k0_part6_skel
  simp only [semWaitWord, Prog.lift, Prog.bind_op, Prog.bind_ret, Prog.pure_eq_ret]
  iapply (wp_load 𝒱₀ (c : Thread nD τ) none Set.univ (m := Memref.whole cc0_stg3_0) (Finset.subset_univ _)) $$ He; iintro He
  -- the barrier
  iapply (bar_step m K c (by rfl)) $$ [HS HcB HaB HtX]
  · isplitr; · iexact HR
    isplitr; · iexact Hlev
    isplitl [HS]; · iexact HS
    isplitl [HcB]; · iexact HcB
    isplitl [HaB]; · iexact HaB
    iexact HtX
  iintro ⟨HT, HaB⟩
  rw [wp_ret]; imodintro
  -- the first block and its transfers
  rw [wp_bind, k0_part7_eq_skeleton]; unfold k0_part7_skel
  simp only [Prog.lift, Prog.bind_op, Prog.bind_ret, Prog.pure_eq_ret]
  iapply (store_step m c 0 rfl rfl (by rfl)) $$ Hb0
  iintro ⟨Hb0', Hb1', Hb2', Hb3'⟩
  rw [wp_ret]; imodintro
  rw [wp_bind, k0_part8_eq_skeleton]; unfold k0_part8_skel
  simp only [Prog.lift, Prog.bind_op, Prog.bind_ret, Prog.pure_eq_ret]
  iapply (send_step m K c 0 rfl (off2_eq c) rfl (off1_eq c)) $$ [HT Hb0']
  · isplitr; · iexact HR
    isplitl [HT]; · iexact HT
    iexact Hb0'
  iintro HT
  iapply (send_step m K c 1 rfl (off2_eq c) rfl (off1_eq c)) $$ [HT Hb1']
  · isplitr; · iexact HR
    isplitl [HT]; · iexact HT
    iexact Hb1'
  iintro HT
  iapply (send_step m K c 2 rfl (off2_eq c) rfl (off1_eq c)) $$ [HT Hb2']
  · isplitr; · iexact HR
    isplitl [HT]; · iexact HT
    iexact Hb2'
  iintro HT
  iapply (send_step m K c 3 rfl (off2_eq c) rfl (off1_eq c)) $$ [HT Hb3']
  · isplitr; · iexact HR
    isplitl [HT]; · iexact HT
    iexact Hb3'
  iintro HT
  rw [wp_ret]; imodintro
  -- the second
  rw [wp_bind, k0_part9_eq_skeleton]; unfold k0_part9_skel
  simp only [Prog.lift, Prog.bind_op, Prog.bind_ret, Prog.pure_eq_ret]
  rw [wp_ret]; imodintro
  rw [wp_bind, k0_part10_eq_skeleton]; unfold k0_part10_skel
  simp only [Prog.lift, Prog.bind_op, Prog.bind_ret, Prog.pure_eq_ret]
  iapply (store_step m c 1 rfl rfl (by rfl)) $$ Hb1
  iintro ⟨Hb4', Hb5', Hb6', Hb7'⟩
  iapply (send_step m K c 4 rfl (off2_eq c) rfl (off1_eq c)) $$ [HT Hb4']
  · isplitr; · iexact HR
    isplitl [HT]; · iexact HT
    iexact Hb4'
  iintro HT
  iapply (send_step m K c 5 rfl (off2_eq c) rfl (off1_eq c)) $$ [HT Hb5']
  · isplitr; · iexact HR
    isplitl [HT]; · iexact HT
    iexact Hb5'
  iintro HT
  rw [wp_ret]; imodintro
  rw [wp_bind, k0_part11_eq_skeleton]; unfold k0_part11_skel
  simp only [Prog.lift, Prog.bind_op, Prog.bind_ret, Prog.pure_eq_ret]
  iapply (send_step m K c 6 rfl (off2_eq c) rfl (off1_eq c)) $$ [HT Hb6']
  · isplitr; · iexact HR
    isplitl [HT]; · iexact HT
    iexact Hb6'
  iintro HT
  iapply (send_step m K c 7 rfl (off2_eq c) rfl (off1_eq c)) $$ [HT Hb7']
  · isplitr; · iexact HR
    isplitl [HT]; · iexact HT
    iexact Hb7'
  iintro HT
  rw [wp_ret]; imodintro
  -- the third
  rw [wp_bind, k0_part12_eq_skeleton]; unfold k0_part12_skel
  simp only [Prog.lift, Prog.bind_op, Prog.bind_ret, Prog.pure_eq_ret]
  iapply (store_step m c 2 rfl rfl (by rfl)) $$ Hb2
  iintro ⟨Hb8', Hb9', Hb10', Hb11'⟩
  rw [wp_ret]; imodintro
  rw [wp_bind, k0_part13_eq_skeleton]; unfold k0_part13_skel
  simp only [Prog.lift, Prog.bind_op, Prog.bind_ret, Prog.pure_eq_ret]
  iapply (send_step m K c 8 rfl (off2_eq c) rfl (off1_eq c)) $$ [HT Hb8']
  · isplitr; · iexact HR
    isplitl [HT]; · iexact HT
    iexact Hb8'
  iintro HT
  iapply (send_step m K c 9 rfl (off2_eq c) rfl (off1_eq c)) $$ [HT Hb9']
  · isplitr; · iexact HR
    isplitl [HT]; · iexact HT
    iexact Hb9'
  iintro HT
  iapply (send_step m K c 10 rfl (off2_eq c) rfl (off1_eq c)) $$ [HT Hb10']
  · isplitr; · iexact HR
    isplitl [HT]; · iexact HT
    iexact Hb10'
  iintro HT
  rw [wp_ret]; imodintro
  rw [wp_bind, k0_part14_eq_skeleton]; unfold k0_part14_skel
  simp only [Prog.lift, Prog.bind_op, Prog.bind_ret, Prog.pure_eq_ret]
  iapply (send_step m K c 11 rfl (off2_eq c) rfl (off1_eq c)) $$ [HT Hb11']
  · isplitr; · iexact HR
    isplitl [HT]; · iexact HT
    iexact Hb11'
  iintro HT
  rw [wp_ret]; imodintro
  -- the fourth
  rw [wp_bind, k0_part15_eq_skeleton]; unfold k0_part15_skel
  simp only [Prog.lift, Prog.bind_op, Prog.bind_ret, Prog.pure_eq_ret]
  iapply (store_step m c 3 rfl rfl (by rfl)) $$ Hb3
  iintro ⟨Hb12', Hb13', Hb14', Hb15'⟩
  iapply (send_step m K c 12 rfl (off2_eq c) rfl (off1_eq c)) $$ [HT Hb12']
  · isplitr; · iexact HR
    isplitl [HT]; · iexact HT
    iexact Hb12'
  iintro HT
  rw [wp_ret]; imodintro
  rw [wp_bind, k0_part16_eq_skeleton]; unfold k0_part16_skel
  simp only [Prog.lift, Prog.bind_op, Prog.bind_ret, Prog.pure_eq_ret]
  iapply (send_step m K c 13 rfl (off2_eq c) rfl (off1_eq c)) $$ [HT Hb13']
  · isplitr; · iexact HR
    isplitl [HT]; · iexact HT
    iexact Hb13'
  iintro HT
  iapply (send_step m K c 14 rfl (off2_eq c) rfl (off1_eq c)) $$ [HT Hb14']
  · isplitr; · iexact HR
    isplitl [HT]; · iexact HT
    iexact Hb14'
  iintro HT
  iapply (send_step m K c 15 rfl (off2_eq c) rfl (off1_eq c)) $$ [HT Hb15']
  · isplitr; · iexact HR
    isplitl [HT]; · iexact HT
    iexact Hb15'
  iintro HT
  iapply (wp_load 𝒱₀ (c : Thread nD τ) none Set.univ (m := Memref.whole cc0_stg2_0) (Finset.subset_univ _)) $$ Hr; iintro Hr
  rw [wp_ret]; imodintro
  -- all transfers started: what is owed is nothing, and the credit of every wait is in hand
  ihave HT' := (sendS_end (F := F) c (by rfl)) $$ HT
  icases HT' with ⟨HO, HcS⟩
  ihave HV := (waitS_intro m .inr c) $$ [HO HcV HaV]
  · isplitl [HO]; · iexact HO
    isplitl [HcV]; · iexact HcV
    iexact HaV
  rw [wp_bind, k0_part17_eq_skeleton]; unfold k0_part17_skel
  simp only [Prog.lift, Prog.bind_op, Prog.bind_ret, Prog.pure_eq_ret]
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg4_0) (Finset.subset_univ _)) $$ Hs; iintro Hs
  rw [read_sw]
  iterate 1
    iapply (recv_step m K c) $$ [HV]
    · isplitr; · iexact HR
      iexact HV
    iintro HV
  rw [wp_ret]; imodintro
  rw [wp_bind, k0_part18_eq_skeleton]; unfold k0_part18_skel
  simp only [Prog.lift, Prog.bind_op, Prog.bind_ret, Prog.pure_eq_ret]
  iterate 4
    iapply (recv_step m K c) $$ [HV]
    · isplitr; · iexact HR
      iexact HV
    iintro HV
  rw [wp_ret]; imodintro
  rw [wp_bind, k0_part19_eq_skeleton]; unfold k0_part19_skel
  simp only [Prog.lift, Prog.bind_op, Prog.bind_ret, Prog.pure_eq_ret]
  iterate 4
    iapply (recv_step m K c) $$ [HV]
    · isplitr; · iexact HR
      iexact HV
    iintro HV
  rw [wp_ret]; imodintro
  rw [wp_bind, k0_part20_eq_skeleton]; unfold k0_part20_skel
  simp only [Prog.lift, Prog.bind_op, Prog.bind_ret, Prog.pure_eq_ret]
  iterate 4
    iapply (recv_step m K c) $$ [HV]
    · isplitr; · iexact HR
      iexact HV
    iintro HV
  rw [wp_ret]; imodintro
  rw [wp_bind, k0_part21_eq_skeleton]; unfold k0_part21_skel
  simp only [Prog.lift, Prog.bind_op, Prog.bind_ret, Prog.pure_eq_ret]
  iterate 3
    iapply (recv_step m K c) $$ [HV]
    · isplitr; · iexact HR
      iexact HV
    iintro HV
  -- the landing buffer is complete
  ihave HV' := (waitS_elim m .inr c (by rfl)) $$ HV
  icases HV' with ⟨HO, HaV, Hrp⟩
  ihave Hrp := (rp_back m c) $$ Hrp
  iapply (wp_load 𝒱₀ (c : Thread nD τ) none Set.univ (m := Memref.whole cc0_scratch1) (Finset.subset_univ _)) $$ Hrp; iintro Hrp
  rw [read_rp]
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0)
    (r := Rect.unit (s := S64x1024) ![0, 0] S64x1024.size inb_S64x1024_S64x1024_0_0) (Mk := Finset.univ) (Finset.subset_univ _)) $$ Hout; iintro Hout
  rw [write_out]
  -- the sixteen transfers out of the staging buffer
  ihave HV := (waitS_intro m .inl c) $$ [HO HcS HaS]
  · isplitl [HO]; · iexact HO
    isplitl [HcS]; · iexact HcS
    iexact HaS
  iterate 1
    iapply (sent_step m K c) $$ [HV]
    · isplitr; · iexact HR
      iexact HV
    iintro HV
  rw [wp_ret]; imodintro
  rw [wp_bind, k0_part22_eq_skeleton]; unfold k0_part22_skel
  simp only [Prog.lift, Prog.bind_op, Prog.bind_ret, Prog.pure_eq_ret]
  iterate 5
    iapply (sent_step m K c) $$ [HV]
    · isplitr; · iexact HR
      iexact HV
    iintro HV
  rw [wp_ret]; imodintro
  rw [wp_bind, k0_part23_eq_skeleton]; unfold k0_part23_skel
  simp only [Prog.lift, Prog.bind_op, Prog.bind_ret, Prog.pure_eq_ret]
  iterate 6
    iapply (sent_step m K c) $$ [HV]
    · isplitr; · iexact HR
      iexact HV
    iintro HV
  rw [wp_ret]; imodintro
  iterate 3
    iapply (sent_step m K c) $$ [HV]
    · isplitr; · iexact HR
      iexact HV
    iintro HV
  rw [wp_ret]; imodintro
  iterate 1
    iapply (sent_step m K c) $$ [HV]
    · isplitr; · iexact HR
      iexact HV
    iintro HV
  ihave HV' := (waitS_elim m .inl c (by rfl)) $$ HV
  icases HV' with ⟨HO, HaS, Hst⟩
  ihave Hst := (stg_back m c) $$ Hst
  -- every cell closes at zero
  imod (close_kind m K .inl c) $$ [HaS] with HzS
  · isplitr; · iexact HR
    iexact HaS
  imod (close_kind m K .inr c) $$ [HaV] with HzV
  · isplitr; · iexact HR
    iexact HaV
  imod (Rounds.cell_close ER (Rd m) (Set.mem_univ (K (c, .inl ()))) (fun h => h) (R := 1) (duties_later m (barCell c))) $$ [HaB] with HzB
  · isplitr; · iapply (records_inv m K (c, .inl ())); iexact HR
    iexact HaB
  rw [wp_ret]; imodintro
  iapply Hk
  unfold bodyPost Φ₁ scratch Dat.owesAt Pipeline.owesWithin
  rw [show (dats m ρ 0 c).owed t₀.succ = 0 from rfl, osems_eq]
  icases HO with ⟨%W', HO⟩
  isplitl [Hst Hrp HzS HzV HzB]
  · isplitl [Hst Hrp]
    · isplitl [Hst]
      · iexists (stgV m c); iexact Hst
      · iexists (rpV m c); iexact Hrp
    isplitl [HzS HzV]
    · isplitl [HzS]; · iexact HzS
      iexact HzV
    iexact HzB
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hr]
  · iexists _; isplitr; · (ipureintro; rfl)
    iexact Hr
  isplitl [He]
  · iexists _; isplitr; · (ipureintro; rfl)
    iexact He
  isplitl [Hs]
  · iexists _; isplitr; · (ipureintro; rfl)
    iexact Hs
  iexists _; isplitr; · (ipureintro; rfl)
  iexact Hout

/-- The same from what the launch hands the body. -/
def bodyPre' (c : Dev nD) : sProp (MT nD τ sig Unit (Elt F) ℕ UU ℕ) :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- The launch's obligation on the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) (fun _ => bodyPost m ρ c)
  unfold bodyPre' Φ₀ start
  iintro ⟨⟨⟨⟨%K, Hg⟩, Hrest⟩, Hscr⟩, Ho, Hw⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    iexact Hw
  · iintro H; iexact H

end Run
end Cert.Moe

end
-- ==== Proof.Launch.lean ====
/-
The launch: how the protocol's cells and tokens are dealt to the sixteen devices, what the launch asks of them, and the
run of the whole program, for any float values, from any memory.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (rangeSet)

variable {F : FTy → Type} [FloatOps F]

local notation "𝕄" => MT nD τ sig Unit (Elt F) ℕ UU ℕ

variable (m : (ℓ : Loc nD τ sig) → Buf (Elt F) ℓ) (ρ : Dev nD → PrngReg)

/-- The region's own semaphores are the transfer cells. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-! ## The cells and the tokens -/

/-- All the cells of the protocol. -/
def moeCells : Finset (GSem nD τ sig) := Finset.univ.map ⟨kcell, kcell_injective⟩

/-- The tokens as minted, cell by cell: a barrier cell's sixteen, a transfer cell's one. -/
abbrev tokOf (ck : Dev nD × (Fin 16 ⊕ (Fin 16 ⊕ Fin 16))) : GSem nD τ sig × ℕ × Fin 16 :=
  match ck.2 with
  | .inl d => (barCell ck.1, 0, d)
  | .inr k => (((ck.1 : Thread nD τ), osem k), 0, 0)

/-- No token is minted twice. -/
theorem tokOf_injective : Function.Injective tokOf := by
  rintro ⟨c, k⟩ ⟨c', k'⟩ h
  have h1 : c = c' := by
    have := congrArg (fun x : GSem nD τ sig × ℕ × Fin 16 => x.1.1.1) h
    rcases k with _ | _ <;> rcases k' with _ | _ <;> exact this
  subst h1
  rcases k with d | k <;> rcases k' with d' | k'
  · rw [show d = d' from congrArg (fun x : GSem nD τ sig × ℕ × Fin 16 => x.2.2) h]
  · exact absurd (congrArg (fun x : GSem nD τ sig × ℕ × Fin 16 => x.1.2) h).symm (osem_ne_bar k')
  · exact absurd (congrArg (fun x : GSem nD τ sig × ℕ × Fin 16 => x.1.2) h) (osem_ne_bar k)
  · rw [osem_injective (congrArg (fun x : GSem nD τ sig × ℕ × Fin 16 => x.1.2) h)]

/-- All the tokens of the protocol. -/
def moeToks : Finset (GSem nD τ sig × ℕ × Fin 16) := Finset.univ.map ⟨tokOf, tokOf_injective⟩

/-- The ghost state at the launch. -/
def u₀ : UU := (initOf (Pipeline.cells cfgs cellOf_inj) (Pipeline.launchToks cfgs cellOf_inj), initOf moeCells moeToks)

/-- The tokens of device `c`'s own cells. -/
def toks (c : Dev nD) : sProp (MT nD τ sig Unit (Elt F) ℕ UU ℕ) :=
  iprop((bigSep Finset.univ fun d : Fin 16 => dutyTok ER (barCell c) 0 d)
    ∗ (bigSep Finset.univ fun j : Fin 16 => dutyTok ER (sendCell c j) 0 0) ∗ bigSep Finset.univ fun j : Fin 16 => dutyTok ER (recvCell c j) 0 0)

/-- What the launch deals device `c`. -/
def G (c : Dev nD) : sProp (MT nD τ sig Unit (Elt F) ℕ UU ℕ) :=
  iprop((bigSep Finset.univ fun k : Ck => roundState ER (Rd m) (kcell (c, k)) 0)
    ∗ posAt c ∗ (bigSep Finset.univ fun k : Ck => reached ER (kcell (c, k)) 0) ∗ toks c)

/-- What the devices make of it together. -/
def G' (c : Dev nD) : sProp (MT nD τ sig Unit (Elt F) ℕ UU ℕ) := iprop(∃ K, ghost m K c)

/-- Something for every cell is something for every device's every cell. -/
theorem cells_dealt (Φ : GSem nD τ sig → sProp 𝕄) :
    bigSep moeCells Φ = bigSep Finset.univ fun c : Dev nD => bigSep Finset.univ fun k : Ck => Φ (kcell (c, k)) := by
  unfold moeCells; rw [bigSep_map, bigSep_univ_prod]; rfl

/-- The minted tokens, device by device. -/
theorem toks_dealt : bigSep moeToks (fun x => (dutyTok ER x.1 x.2.1 x.2.2 : sProp 𝕄)) = bigSep Finset.univ fun c : Dev nD => toks c := by
  unfold moeToks
  rw [bigSep_map, bigSep_univ_prod]
  refine bigSep_congr fun c _ => ?_
  unfold toks
  rw [bigSep_univ_sum, bigSep_univ_sum]
  rfl

/-- The launch's ghost state pays for what it deals the devices. -/
theorem fund_moe : BI.own (ER (initOf moeCells moeToks)) ⊢ (|==> bigSep Finset.univ (G m) : sProp 𝕄) := by
  iintro HX
  imod (Rounds.fund ER (Rd m) moeCells moeToks) $$ HX with ⟨Hst, Hr, Hat, Htok⟩
  imodintro
  ihave Hst' := (Entails.of_eq (cells_dealt fun g => roundState ER (Rd m) g 0)) $$ Hst
  ihave Hat' := (Entails.of_eq (cells_dealt (F := F) fun g => atPos ER g 0 ∅ 0)) $$ Hat
  ihave Hr' := (Entails.of_eq (cells_dealt (F := F) fun g => reached ER g 0)) $$ Hr
  ihave Htok' := (Entails.of_eq (toks_dealt (F := F))) $$ Htok
  unfold G posAt; simp only [bigSep_sep']
  isplitl [Hst']; · iexact Hst'
  isplitl [Hat']; · iexact Hat'
  isplitl [Hr']; · iexact Hr'
  iexact Htok'

/-- The one semaphore outside the region is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Every semaphore of a device at zero, cell by cell. -/
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [unscopedSems0_eq, bigSep_univ_sum, bigSep_eq_bigSepL_of_eq (S := (Finset.univ : Finset Unit)) [()] (by decide) (by decide)]
  show iprop((bigSep Finset.univ fun k => semVal ((c : Thread nD τ), osem k) 0) ∗ semVal (barCell c) 0)
    ⊢ iprop(semVal (barCell c) 0 ∗ bigSep Finset.univ fun k => semVal ((c : Thread nD τ), osem k) 0)
  iintro ⟨H1, H2⟩
  isplitl [H2] <;> iassumption

/-- A device's cells, opened: an invariant each. -/
theorem open_cells (c : Dev nD) :
    iprop((bigSep Finset.univ fun k : Ck => semVal (kcell (c, k)) 0) ∗ bigSep Finset.univ fun k : Ck => roundState ER (Rd m) (kcell (c, k)) 0)
      ⊢ (|={Set.univ}=> bigSep Finset.univ fun k : Ck => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- A device's semaphores at zero and its round states become the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd m) κ (kcell (c, k))))
          ∗ posAt c ∗ (bigSep Finset.univ fun k : Ck => reached ER (kcell (c, k)) 0) ∗ toks c) := by
  unfold G
  iintro ⟨Hos, Hus, Hst, Hrest⟩
  ihave Hv := (sems_cells (F := F) c) $$ [Hos Hus]
  · isplitl [Hos] <;> iassumption
  imod (open_cells m c) $$ [Hv Hst] with Hinv
  · isplitl [Hv] <;> iassumption
  imodintro
  isplitl [Hinv]; · iexact Hinv
  iexact Hrest

/-- The tokens change hands: each device gets those of the signals and landings it makes. -/
theorem toks_around : (bigSep Finset.univ fun c : Dev nD => (toks c : sProp 𝕄)) ⊢ bigSep Finset.univ fun c : Dev nD => payToks c := by
  unfold toks payToks
  simp only [bigSep_sep']
  rw [BI.bigSep_univ_comm fun (c : Dev nD) (d : Fin 16) => (dutyTok ER (barCell c) 0 d : sProp 𝕄),
    BI.bigSep_univ_comm fun (c : Dev nD) (j : Fin 16) => (dutyTok ER (recvCell c j) 0 0 : sProp 𝕄)]

/-- Records, positions and tokens to pay with are what a device starts from. -/
theorem ghosts_intro (K : Dev nD × Ck → ℕ) :
    iprop(records m K ∗ (bigSep Finset.univ fun c : Dev nD => posAt c) ∗ bigSep Finset.univ fun c : Dev nD => payToks c)
      ⊢ bigSep Finset.univ (G' m) := by
  have h : (bigSep Finset.univ fun c : Dev nD => iprop(records m K ∗ posAt c ∗ payToks c)) ⊢ bigSep Finset.univ (G' m) :=
    bigSep_mono fun c _ => show _ ⊢ G' m c by unfold G' ghost; iintro H; iexists K; iexact H
  refine BI.Entails.trans ?_ h
  simp only [bigSep_sep']
  show iprop(records m K ∗ (bigSep Finset.univ fun c : Dev nD => posAt c) ∗ bigSep Finset.univ fun c : Dev nD => payToks c)
    ⊢ iprop((bigSep Finset.univ fun _ : Dev nD => records m K) ∗ (bigSep Finset.univ fun c : Dev nD => posAt c) ∗ bigSep Finset.univ fun c : Dev nD => payToks c)
  iintro ⟨#HR, H⟩
  isplitr [H]
  · iapply (bigSep_of_persistent Finset.univ (records m K)); iexact HR
  iexact H

/-- The devices' shares, put together and dealt anew. -/
theorem regroup :
    (bigSep Finset.univ fun c : Dev nD => iprop((bigSep Finset.univ fun k : Ck => iprop(∃ κ : ℕ, cellInv ER (Rd m) κ (kcell (c, k))))
          ∗ posAt c ∗ (bigSep Finset.univ fun k : Ck => reached ER (kcell (c, k)) 0) ∗ toks c) : sProp 𝕄)
      ⊢ bigSep Finset.univ (G' m) := by
  simp only [bigSep_sep']
  rw [← bigSep_univ_prod (fun ck : Dev nD × Ck => iprop(∃ κ : ℕ, cellInv ER (Rd m) κ (kcell ck))),
    ← bigSep_univ_prod (fun ck : Dev nD × Ck => (reached ER (kcell ck) 0 : sProp 𝕄))]
  iintro ⟨HI, Hat, #HR, Htok⟩
  ihave HK := (BI.bigSep_exists_pi Finset.univ (fun (ck : Dev nD × Ck) (κ : ℕ) => (cellInv ER (Rd m) κ (kcell ck) : sProp 𝕄))) $$ HI
  icases HK with ⟨%K, #HI⟩
  ihave Htk := (toks_around (F := F)) $$ Htok
  iapply (ghosts_intro m K)
  isplitr
  · unfold records
    isplitl; · iexact HI
    iexact HR
  isplitl [Hat]; · iexact Hat
  iexact Htk

/-- The launch's update, over all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A sum of tallies at different cells, at one of the cells; -/
theorem tally_sum_at {f : Fin 16 → GSem nD τ sig} (hf : Function.Injective f) (n : ℕ) (j : Fin 16) :
    (∑ i ∈ rangeSet 16 0 16, (tallyAt (f i) () n : CellTallies nD τ sig Unit)) (f j) () = n := by
  rw [Ring.rangeSet_univ, Finset.sum_apply, Finsupp.finset_sum_apply, Finset.sum_eq_single j]
  · rw [tallyAt_apply, if_pos ⟨rfl, rfl⟩]
  · intro i _ hi; rw [tallyAt_apply, if_neg fun h => hi (hf h.1).symm]
  · intro h; exact absurd (Finset.mem_univ j) h

/-- and at any other cell. -/
theorem tally_sum_ne {f : Fin 16 → GSem nD τ sig} {n : ℕ} {g : GSem nD τ sig} (h : ∀ j, g ≠ f j) :
    (∑ i ∈ rangeSet 16 0 16, (tallyAt (f i) () n : CellTallies nD τ sig Unit)) g () = 0 := by
  by_contra hn
  obtain ⟨j, hj⟩ := tally_sum_pos (Nat.pos_of_ne_zero hn)
  exact h j hj

/-- Different devices have different barrier cells. -/
theorem barCell_injective : Function.Injective (barCell : Dev nD → GSem nD τ sig) :=
  fun a b h => congrArg (fun g : GSem nD τ sig => g.1.1) h

/-- Each device owes each barrier cell one signal; -/
theorem owed_bar (d c : Dev nD) : O₀ d (barCell c) () = 1 := by
  unfold O₀ sigO recvO
  rw [Pi.add_apply, Finsupp.add_apply, tally_sum_ne fun j h => osem_ne_bar (.inr d) (congrArg Prod.snd h).symm, Nat.zero_add]
  exact tally_sum_at barCell_injective 1 c

/-- and each device one landing, on its own receive cell. -/
theorem owed_recv (d c : Dev nD) (j : Fin 16) : O₀ d (recvCell c j) () = if d = j then N else 0 := by
  unfold O₀ sigO recvO
  rw [Pi.add_apply, Finsupp.add_apply, tally_sum_ne (f := barCell) fun i h => osem_ne_bar (.inr j) (congrArg Prod.snd h), Nat.add_zero]
  by_cases h : d = j
  · subst h
    rw [if_pos rfl]
    exact tally_sum_at (f := fun i => recvCell i d) (fun a b h => congrArg (fun g : GSem nD τ sig => g.1.1) h) N c
  · rw [if_neg h]
    exact tally_sum_ne fun i hi => h (Sum.inr.inj (osem_injective (a₁ := .inr j) (a₂ := .inr d) (congrArg Prod.snd hi))).symm

/-- The launch credits a barrier cell with sixteen signals, -/
theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c, Finset.sum_const, Finset.card_univ,
    Fintype.card_fin, smul_eq_mul]
  rfl

/-- and a receive cell with one landing. -/
theorem launch_recv (c : Dev nD) (j : Fin 16) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ j fun _ => N,
    if_pos (Finset.mem_univ _)]

/-- The receive cells of a device, among its semaphores. -/
def recvLocs : Finset (SemLoc sig) := Finset.univ.map ⟨fun j : Fin 16 => SemLoc.dma (recvS j), fun a b h =>
  Sum.inr.inj (osem_injective (a₁ := .inr a) (a₂ := .inr b) h)⟩

/-- The receive cells are not the barrier. -/
theorem recvLocs_sub : recvLocs ⊆ Finset.univ.erase (SemLoc.reg barS) := fun s hs => by
  obtain ⟨j, -, rfl⟩ := Finset.mem_map.mp hs
  exact Finset.mem_erase.mpr ⟨osem_ne_bar (.inr j), Finset.mem_univ _⟩

/-- The launch's credit of a device, cell by cell. -/
theorem creds (c : Dev nD) :
    (Pipeline.launchCred O₀ c : sProp 𝕄)
      ⊢ iprop(cred (tallyAt (barCell c) () 16) ∗ bigSep Finset.univ fun j : Fin 16 => cred (tallyAt (recvCell c j) () N)) := by
  unfold Pipeline.launchCred
  rw [bigSep_univ_at _ (SemLoc.reg barS), launch_bar]
  refine sep_mono_right ?_
  rw [bigSep_congr (s := (Finset.univ : Finset (Fin 16))) fun j _ => congrArg cred (launch_recv c j).symm]
  refine BI.Entails.trans (bigSep_subset recvLocs_sub) ?_
  unfold recvLocs
  rw [bigSep_map]
  exact BI.Entails.refl _

/-! ## The launch's side conditions -/

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With the scratch buffers that is what it holds before the body; -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- and what it holds after the body gives back its scratch and its semaphores at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch Pipeline.ownSems0
  iintro ⟨Hr, Hz, HzB⟩
  isplitl [HzB]; · iexact HzB
  isplitl [Hz]; · iexact Hz
  iexact Hr

/-- The staging semaphores of the pipeline are below every cell of the protocol. -/
theorem lv_stage (c : Dev nD) (w : Fin 6) (s : Fin (cfg0.win w).nbuf) :
    lv ((c : Thread nD τ), .dma ((cfg0.win w).sem s)) () = 0 := by
  fin_cases w <;> fin_cases s <;> rfl

/-- The pipeline's own waits are allowed by the levels. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

/-! ## The run -/

/-- What a device's array for window `w` holds in the end. -/
def finalA (c : Dev nD) (w : Fin cfg0.W) : Buf (Elt F) ((cfg0.win w).arr.view.loc (c : Thread nD τ)) := (dats m ρ 0 c).arrAt w cfg0.N

/-- Every device's arrays hold in the end what the region's data says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values, every weakly fair execution of the program on the
    sixteen devices ends, with each device's arrays at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_moe m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
The frames of the three programs: each runs to the end, with its arguments unchanged and every semaphore at zero. The
kernel's run is proved once, for any float values, so the frame of the program at bits and the frame of its reading
at the extended reals are two readings of one theorem.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Cert.KernelIdeal Cert.KernelIdeal.Gen
open Idealize.ShloMosaic Idealize.ShloMosaic.TcCoe Idealize.SL.Sem

variable {F : FTy → Type} [FloatOps F]

/-- The five argument arrays of a device end as they began. -/
theorem args_kept {m : (ℓ : Loc nD τ sig) → Buf (Elt F) ℓ} {ρ : Dev nD → PrngReg}
    {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans ((dats m ρ 0 c).arrAt_in 0 rfl _), (h c 1).trans ((dats m ρ 0 c).arrAt_in 1 rfl _),
    (h c 2).trans ((dats m ρ 0 c).arrAt_in 2 rfl _), (h c 3).trans ((dats m ρ 0 c).arrAt_in 3 rfl _),
    (h c 4).trans ((dats m ρ 0 c).arrAt_in 4 rfl _)⟩

/-- For any float values the kernel runs, with its arguments unchanged and every semaphore at zero. -/
theorem frame_any (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run Cert.KernelIdeal.defs _ _).mono (fun _ h => ⟨fun c => args_kept h.1 c, h.2⟩) (run_main m ρ)

/-- The kernel read at the extended reals runs, with its arguments unchanged and every semaphore at zero. -/
theorem frame_kernelIdeal : Cert.quiescent_KernelIdeal := fun m ρ _ => frame_any m ρ

/-- The body tables of the kernel and of its idealization are one table. -/
theorem defs₀_eq : Cert.Kernel.defs₀ (F := F) = Cert.KernelIdeal.defs₀ (F := F) := by
  unfold Cert.Kernel.defs₀ Cert.KernelIdeal.defs₀
  congr 1
  funext l s
  match l, s with
  | ⟨0, _⟩, (t, s) => rfl

/-- The whole tables too. -/
theorem defs_eq : Cert.Kernel.defs (F := F) = Cert.KernelIdeal.defs (F := F) :=
  congrArg (Pipeline.defs Cert.KernelIdeal.pcfgs) defs₀_eq

/-- The kernel at bits runs, with its arguments unchanged and every semaphore at zero: its text is the text of the
idealized kernel, so the run above is its run too. -/
theorem frame_kernel : Cert.quiescent_Kernel := fun m ρ _ => by
  rw [defs_eq]
  exact frame_any (F := Bits) m ρ

/-- The reference runs, with its arguments unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Moe

end
-- ==== Proof.Counting.lean ====
/-
Counts of tokens as natural numbers, and the scalar facts that take the kernel's 0/1 words, its sums of them and its
conversions to and from integers to those counts. `e k` is the expert token `k` names, `e k / 4` the device that owns it.
-/
module

public import Idealize.ShloMosaic.Lib.Pointwise
public import Idealize.ShloMosaic.Lib.WordCmp
public import Mathlib.Data.Nat.Count

@[expose] public section

noncomputable section

namespace Cert.Moe

open Idealize.ShloMosaic

/-! ## Counts -/

/-- Predicates that agree below `n` have the same count below `n`. -/
theorem count_congr {p q : ℕ → Prop} [DecidablePred p] [DecidablePred q] :
    ∀ {n : ℕ}, (∀ k < n, (p k ↔ q k)) → Nat.count p n = Nat.count q n
  | 0, _ => rfl
  | n + 1, h => by
    rw [Nat.count_succ, Nat.count_succ, count_congr fun k hk => h k (Nat.lt_succ_of_lt hk)]
    simp only [h n (Nat.lt_succ_self n)]

/-- A predicate that holds nowhere below `n` has count 0. -/
theorem count_eq_zero {p : ℕ → Prop} [DecidablePred p] {n : ℕ} (h : ∀ k < n, ¬p k) : Nat.count p n = 0 :=
  (count_congr fun k hk => iff_of_false (h k hk) not_false).trans (Nat.count_false n)

/-- The count of a predicate cut to a window `[lo, lo + len)` is the count of the shifted predicate below `len`. -/
theorem count_window (P : ℕ → Prop) [DecidablePred P] (lo len rest : ℕ) :
    Nat.count (fun k => (lo ≤ k ∧ k < lo + len) ∧ P k) (lo + len + rest) = Nat.count (fun k => P (lo + k)) len := by
  rw [Nat.count_add, Nat.count_add, count_eq_zero fun k hk h => absurd h.1.1 (Nat.not_le.2 hk),
    count_eq_zero (p := fun k => (lo ≤ lo + len + k ∧ lo + len + k < lo + len) ∧ P (lo + len + k)) fun k _ h => by omega,
    Nat.zero_add, Nat.add_zero]
  exact count_congr fun k hk => by simp only [Nat.le_add_right, Nat.add_lt_add_iff_left, hk, and_self, true_and]

/-- A sum of 0/1 terms over `Fin n`, as an extended real, is the count. -/
theorem sum_ind (p : ℕ → Prop) [DecidablePred p] (n : ℕ) :
    ∑ j : Fin n, (if p j.val then (1 : EReal) else 0) = ((Nat.count p n : ℕ) : EReal) := by
  rw [Fin.sum_univ_eq_sum_range (fun j => if p j then (1 : EReal) else 0) n, Finset.sum_boole, Nat.count_eq_card_filter_range]

/-- The product of two 0/1 terms is the 0/1 term of both conditions. -/
theorem ind_mul (p q : Prop) [Decidable p] [Decidable q] :
    (if p then (1 : EReal) else 0) * (if q then 1 else 0) = if p ∧ q then 1 else 0 := by
  by_cases hp : p <;> by_cases hq : q <;> simp [hp, hq]

/-- A sum in which one term is weighed by 1 and every other by 0 is that term. -/
theorem sum_pick {ι : Type} [Fintype ι] (p : ι → Prop) [DecidablePred p] (f : ι → EReal) (i : ι) (h : ∀ j, p j ↔ j = i) :
    ∑ j, (if p j then (1 : EReal) else 0) * f j = f i := by
  classical
  rw [Finset.sum_eq_single i (fun j _ hj => by rw [if_neg (fun hp => hj ((h j).1 hp)), zero_mul]) (fun hi => absurd (Finset.mem_univ i) hi),
    if_pos ((h i).2 rfl), one_mul]

/-! ## The scalars -/

/-- A comparison's bit, widened and converted to a float, is 1 or 0. -/
theorem sitofp_bit (b : Bool) : FloatOps.sitofp (F := Ideal) .f32 (BitVec.setWidth 32 (BitVec.ofBool b)) = if b = true then (1 : EReal) else 0 := by
  cases b
  · show (((BitVec.setWidth 32 (BitVec.ofBool false)).toInt : ℝ) : EReal) = _
    simp
  · show (((BitVec.setWidth 32 (BitVec.ofBool true)).toInt : ℝ) : EReal) = _
    have : (BitVec.setWidth 32 (BitVec.ofBool true)).toInt = 1 := by decide
    rw [this]; simp

/-- A natural below 2³¹ converted to a float is itself. -/
theorem sitofp_nat {n : ℕ} (h : n < 2 ^ 31) : FloatOps.sitofp (F := Ideal) .f32 (BitVec.ofNat 32 n) = ((n : ℕ) : EReal) := by
  show (((BitVec.ofNat 32 n).toInt : ℝ) : EReal) = _
  rw [WordCmp.toInt_ofNat_of_lt h]
  simp

/-- A natural below 2³¹ converted from a float is itself. -/
theorem fptosi_nat {n : ℕ} (h : n < 2 ^ 31) : FloatOps.fptosi (F := Ideal) (φ := .f32) 32 ((n : ℕ) : EReal) = BitVec.ofNat 32 n := by
  show Ideal.fptosi 32 ((n : ℕ) : EReal) = _
  have e : ((n : ℕ) : EReal) = (((n : ℕ) : ℝ) : EReal) := by simp
  rw [e, Ideal.fptosi, Ideal.toIntClamped_coe, if_pos (Nat.cast_nonneg n), Int.floor_natCast, min_eq_right, max_eq_right]
  · exact BitVec.ofInt_natCast 32 n
  · simp
  · simp; omega

/-- The count with the last one taken off. -/
theorem succ_sub_one (n : ℕ) : ((n + 1 : ℕ) : EReal) - 1 = ((n : ℕ) : EReal) := by
  have e : ((n + 1 : ℕ) : EReal) = (((n : ℝ) + 1 : ℝ) : EReal) := by push_cast; rfl
  have e1 : (1 : EReal) = ((1 : ℝ) : EReal) := rfl
  rw [e, e1, ← EReal.coe_sub, add_sub_cancel_right]; rfl

/-- An expert's owner: the kernel's division by 4. -/
theorem divsi_four {u : ArithUnit} {n : ℕ} (h : n < 64) : IntOp.divsi u (BitVec.ofNat 32 n) 4#32 = BitVec.ofNat 32 (n / 4) := by
  have : ∀ n : Fin 64, IntOp.divsi u (BitVec.ofNat 32 n.val) 4#32 = BitVec.ofNat 32 (n.val / 4) := by cases u <;> decide
  exact this ⟨n, h⟩

/-- A small number's word divided by 64. -/
theorem divsi_sixtyfour {n : ℕ} (h : n < 256) : IntOp.divsi .vector (BitVec.ofNat 32 n) 64#32 = BitVec.ofNat 32 (n / 64) := by
  have : ∀ n : Fin 256, IntOp.divsi .vector (BitVec.ofNat 32 n.val) 64#32 = BitVec.ofNat 32 (n.val / 64) := by decide
  exact this ⟨n, h⟩

/-- Equality of two small words is equality of the naturals. -/
theorem cmpi_eq_nat {a b : ℕ} (ha : a < 2 ^ 31) (hb : b < 2 ^ 31) :
    IntOp.cmpi .eq (BitVec.ofNat 32 a) (BitVec.ofNat 32 b) = BitVec.ofBool (decide (a = b)) := by
  rw [WordCmp.cmpi_eq_eq]
  congr 1
  exact decide_eq_decide.2 (WordCmp.ofNat_eq_ofNat_iff (by omega) (by omega))

/-- Small numbers' words compare as the numbers do: at most, -/
theorem cmpi_sle_nat {a b : ℕ} (ha : a < 2 ^ 31) (hb : b < 2 ^ 31) :
    IntOp.cmpi .sle (BitVec.ofNat 32 a) (BitVec.ofNat 32 b) = BitVec.ofBool (decide (a ≤ b)) := WordCmp.cmpi_sle_ofNat ha hb

/-- and less than. -/
theorem cmpi_slt_nat {a b : ℕ} (ha : a < 2 ^ 31) (hb : b < 2 ^ 31) :
    IntOp.cmpi .slt (BitVec.ofNat 32 a) (BitVec.ofNat 32 b) = BitVec.ofBool (decide (a < b)) := WordCmp.cmpi_slt_ofNat ha hb

/-! ## Ranks -/

/-- How many earlier tokens the token's owner owns. -/
def gr (e : ℕ → ℕ) (t : ℕ) : ℕ := Nat.count (fun k => e k / 4 = e t / 4) t

/-- How many earlier tokens of the same chunk of 64 the token's owner owns. -/
def slot (e : ℕ → ℕ) (t : ℕ) : ℕ := Nat.count (fun k => e (64 * (t / 64) + k) / 4 = e t / 4) (t % 64)

/-- No device owns more than 16 tokens of a chunk, nor more than 128 of all. -/
structure Fits (e : ℕ → ℕ) : Prop where
  lt : ∀ k, e k < 64
  chunk : ∀ b < 16, ∀ c < 16, Nat.count (fun k => e (64 * b + k) / 4 = c) 64 ≤ 16
  all : ∀ c < 16, Nat.count (fun k => e k / 4 = c) 1024 ≤ 128

variable {e : ℕ → ℕ}

/-- A token's row in its owner's gathered block is one of the 128. -/
theorem gr_lt (h : Fits e) {t : ℕ} (ht : t < 1024) : gr e t < 128 :=
  lt_of_lt_of_le (Nat.count_strict_mono (p := fun k => e k / 4 = e t / 4) rfl ht) (h.all _ (by have := h.lt t; omega))

/-- A token's row in its owner's slot is one of the 16. -/
theorem slot_lt (h : Fits e) {t : ℕ} (ht : t < 1024) : slot e t < 16 :=
  lt_of_lt_of_le (Nat.count_strict_mono (p := fun k => e (64 * (t / 64) + k) / 4 = e t / 4)
    (by show e (64 * (t / 64) + t % 64) / 4 = _; rw [Nat.div_add_mod]) (Nat.mod_lt t (by decide)))
    (h.chunk _ (by omega) _ (by have := h.lt t; omega))

/-- Tokens of one owner at one rank are one token. -/
theorem gr_inj {t u : ℕ} (ho : e t / 4 = e u / 4) (h : gr e t = gr e u) : t = u := by
  unfold gr at h
  rw [ho] at h
  exact Nat.count_injective (p := fun k => e k / 4 = e u / 4) ho rfl h

/-- Tokens of one owner and one chunk at one slot are one token. -/
theorem slot_inj {t u : ℕ} (hc : t / 64 = u / 64) (ho : e t / 4 = e u / 4) (h : slot e t = slot e u) : t = u := by
  unfold slot at h
  rw [ho, hc] at h
  have := Nat.count_injective (p := fun k => e (64 * (u / 64) + k) / 4 = e u / 4)
    (by show e (64 * (u / 64) + t % 64) / 4 = _; rw [← hc, Nat.div_add_mod, ho])
    (by show e (64 * (u / 64) + u % 64) / 4 = _; rw [Nat.div_add_mod]) h
  omega

end Cert.Moe

end
-- ==== Proof.Gathered.lean ====
/-
What a device computes of its own tokens, over the exact extended reals: the counts and ranks as naturals, the tokens
gathered by rank, and the experts' outputs of them. `e t` is the expert token `t` names; device `c` owns it when
`e t / 4 = c`.
-/
module

public import proofs.«01_k».proof.Proof.Values
public import proofs.«01_k».proof.Proof.Counting

@[expose] public section

set_option maxRecDepth 16384

noncomputable section

namespace Cert.Moe

open Cert.KernelIdeal Cert.KernelIdeal.Gen
open Idealize.ShloMosaic Idealize.ShloMosaic.TcCoe

variable {e : ℕ → ℕ} {rt : Vec Ideal S1024x1 .i32}

/-- The routes are the words of the naturals `e`. -/
def Routes (e : ℕ → ℕ) (rt : Vec Ideal S1024x1 .i32) : Prop := ∀ t : Fin 1024, rt (ix2 t 0) = BitVec.ofNat 32 (e t.val)

/-- The bit that says a token is the device's own. -/
theorem mine_read (he : Routes e rt) (hf : Fits e) (c : Fin 16) (t : Fin 1024) :
    k0_pay6 (F := Ideal) (BitVec.ofNat 32 c.val) rt (ix2 t 0) = BitVec.ofBool (decide (e t.val / 4 = c.val)) := by
  have h := hf.lt t.val
  pointwise [k0_pay6, k0_pay2]
  rw [he t, divsi_four h, cmpi_eq_nat (by omega) (by omega)]

/-- Whether the device owns a token, as 0 or 1. -/
theorem mineF_read (he : Routes e rt) (hf : Fits e) (c : Fin 16) (t : Fin 1024) :
    k0_pay7 (F := Ideal) (BitVec.ofNat 32 c.val) rt (ix2 t 0) = if e t.val / 4 = c.val then 1 else 0 := by
  have h : k0_pay7 (F := Ideal) (BitVec.ofNat 32 c.val) rt (ix2 t 0)
      = FloatOps.sitofp .f32 (BitVec.setWidth 32 (k0_pay6 (F := Ideal) (BitVec.ofNat 32 c.val) rt (ix2 t 0))) := by
    pointwise [k0_pay7]
  rw [h, mine_read he hf, sitofp_bit]
  simp only [decide_eq_true_eq]

/-- The 0/1 matrix that counts up to a token within its chunk of 64. -/
theorem chunkTri_read (a b : Fin 256) :
    k0_pay4 (F := Ideal) (ix2 a b) = if (64 * (a.val / 64) ≤ b.val ∧ b.val < 64 * (a.val / 64) + (a.val % 64 + 1)) then 1 else 0 := by
  have ha := a.isLt
  have hb := b.isLt
  pointwise [k0_pay4]
  rw [divsi_sixtyfour ha, divsi_sixtyfour hb, cmpi_sle_nat (by omega) (by omega), cmpi_eq_nat (by omega) (by omega),
    WordCmp.andi_ofBool, sitofp_bit]
  refine if_congr ?_ rfl rfl
  rw [Bool.and_eq_true, decide_eq_true_eq, decide_eq_true_eq]
  omega

/-- The 0/1 matrix that counts up to a token within its block of 256. -/
theorem blockTri_read (a b : Fin 256) : k0_pay5 (F := Ideal) (ix2 a b) = if (0 ≤ b.val ∧ b.val < 0 + (a.val + 1)) then 1 else 0 := by
  have ha := a.isLt
  have hb := b.isLt
  pointwise [k0_pay5]
  rw [cmpi_sle_nat (by omega) (by omega), sitofp_bit]
  refine if_congr ?_ rfl rfl
  rw [decide_eq_true_eq]
  omega

/-- The running counts are one product: of the two counting matrices, one above the other, with the ownership of each block. -/
theorem counts_sum (w : BitVec 32) (a : Fin 512) (z : Fin 4) :
    counts (F := Ideal) w rt (ix2 a z) = ∑ x : Fin 256,
      (if h : a.val < 256 then k0_pay4 (F := Ideal) (ix2 ⟨a.val, h⟩ x) else k0_pay5 (F := Ideal) (ix2 ⟨a.val - 256, by omega⟩ x))
        * k0_pay7 (F := Ideal) w rt (ix2 ⟨256 * z.val + x.val, by omega⟩ 0) := by
  match z with
  | 0 => pointwise [counts, k0_pay11, k0_pay8, k0_pay9, k0_pay10]
  | 1 => pointwise [counts, k0_pay11, k0_pay8, k0_pay9, k0_pay10]
  | 2 => pointwise [counts, k0_pay11, k0_pay8, k0_pay9, k0_pay10]
  | 3 => pointwise [counts, k0_pay11, k0_pay8, k0_pay9, k0_pay10]

/-- A sum over a block of 256 of a window's 0/1 weights and the owner's 0/1 column is a count. -/
theorem window_sum (he : Routes e rt) (hf : Fits e) (c : Fin 16) (z : Fin 4) (lo len : ℕ) (h : lo + len ≤ 256) :
    ∑ x : Fin 256, (if (lo ≤ x.val ∧ x.val < lo + len) then (1 : EReal) else 0)
        * k0_pay7 (F := Ideal) (BitVec.ofNat 32 c.val) rt (ix2 ⟨256 * z.val + x.val, by omega⟩ 0)
      = ((Nat.count (fun k => e (256 * z.val + (lo + k)) / 4 = c.val) len : ℕ) : EReal) := by
  rw [← count_window (fun k => e (256 * z.val + k) / 4 = c.val) lo len (256 - (lo + len)), show lo + len + (256 - (lo + len)) = 256 by omega,
    ← sum_ind]
  refine Finset.sum_congr rfl fun x _ => ?_
  rw [mineF_read he hf, ind_mul]

/-- The upper half counts the device's tokens within a chunk of 64, -/
theorem counts_lo (he : Routes e rt) (hf : Fits e) (c : Fin 16) (z : Fin 4) (j : Fin 256) :
    counts (F := Ideal) (BitVec.ofNat 32 c.val) rt (ix2 ⟨j.val, by omega⟩ z)
      = ((Nat.count (fun k => e (256 * z.val + (64 * (j.val / 64) + k)) / 4 = c.val) (j.val % 64 + 1) : ℕ) : EReal) := by
  rw [counts_sum, ← window_sum he hf c z (64 * (j.val / 64)) (j.val % 64 + 1) (by omega)]
  refine Finset.sum_congr rfl fun x _ => ?_
  rw [dif_pos j.isLt, chunkTri_read]

/-- and the lower half those within a block of 256. -/
theorem counts_hi (he : Routes e rt) (hf : Fits e) (c : Fin 16) (z : Fin 4) (j : Fin 256) :
    counts (F := Ideal) (BitVec.ofNat 32 c.val) rt (ix2 ⟨256 + j.val, by omega⟩ z)
      = ((Nat.count (fun k => e (256 * z.val + k) / 4 = c.val) (j.val + 1) : ℕ) : EReal) := by
  have hw := window_sum he hf c z 0 (j.val + 1) (by omega)
  simp only [Nat.zero_add] at hw
  rw [counts_sum, ← hw]
  refine Finset.sum_congr rfl fun x _ => ?_
  rw [dif_neg (show ¬256 + j.val < 256 by omega), blockTri_read]
  simp only [Nat.add_sub_cancel_left, Nat.zero_add]

/-- A token's slot among its owner's tokens of the chunk. -/
theorem slot_read (he : Routes e rt) (hf : Fits e) (c : Fin 16) (z : Fin 4) (j : Fin 256) (ht : e (256 * z.val + j.val) / 4 = c.val) :
    FloatOps.fptosi (F := Ideal) (φ := .f32) 32 (counts (F := Ideal) (BitVec.ofNat 32 c.val) rt (ix2 ⟨j.val, by omega⟩ z) - 1)
      = BitVec.ofNat 32 (slot e (256 * z.val + j.val)) := by
  have hlt := slot_lt hf (t := 256 * z.val + j.val) (by omega)
  have h64 : 64 * ((256 * z.val + j.val) / 64) = 256 * z.val + 64 * (j.val / 64) := by omega
  have hs : slot e (256 * z.val + j.val) = Nat.count (fun k => e (256 * z.val + (64 * (j.val / 64) + k)) / 4 = c.val) (j.val % 64) := by
    unfold slot
    rw [h64, ht, show (256 * z.val + j.val) % 64 = j.val % 64 by omega]
    simp only [Nat.add_assoc]
  rw [counts_lo he hf, Nat.count_succ, if_pos (by rw [Nat.div_add_mod]; exact ht), succ_sub_one, fptosi_nat (by omega), hs]

/-- At a token of the device the count less one is the number of the device's tokens before it in the block. -/
theorem counts_hi_mine (he : Routes e rt) (hf : Fits e) (c : Fin 16) (z : Fin 4) (j : Fin 256) (ht : e (256 * z.val + j.val) / 4 = c.val) :
    counts (F := Ideal) (BitVec.ofNat 32 c.val) rt (ix2 ⟨256 + j.val, by omega⟩ z) - 1
      = ((Nat.count (fun k => e (256 * z.val + k) / 4 = c.val) j.val : ℕ) : EReal) := by
  rw [counts_hi he hf, Nat.count_succ, if_pos ht, succ_sub_one]

/-- How many tokens of block `z` the device owns. -/
theorem counts_total (he : Routes e rt) (hf : Fits e) (c : Fin 16) (z : Fin 4) :
    counts (F := Ideal) (BitVec.ofNat 32 c.val) rt (ix2 511 z)
      = ((Nat.count (fun k => e (256 * z.val + k) / 4 = c.val) 256 : ℕ) : EReal) :=
  counts_hi he hf c z 255

/-- A token's rank among the device's own tokens. -/
theorem rank_read (he : Routes e rt) (hf : Fits e) (c : Fin 16) (t : Fin 1024) (ht : e t.val / 4 = c.val) :
    rank (F := Ideal) (BitVec.ofNat 32 c.val) rt (ix2 t 0) = BitVec.ofNat 32 (gr e t.val) := by
  have hlt := gr_lt hf t.isLt
  have hsum : ∀ (z : ℕ) (j : ℕ), t.val = z + j → gr e t.val
      = Nat.count (fun k => e k / 4 = c.val) z + Nat.count (fun k => e (z + k) / 4 = c.val) j := by
    intro z j h
    rw [← Nat.count_add, ← h]
    unfold gr
    rw [ht]
  have hadd : ∀ z : ℕ, Nat.count (fun k => e k / 4 = c.val) (z + 256)
      = Nat.count (fun k => e k / 4 = c.val) z + Nat.count (fun k => e (z + k) / 4 = c.val) 256 := fun z => Nat.count_add _ _ _
  have h0 := counts_total he hf c 0
  have h1 := counts_total he hf c 1
  have h2 := counts_total he hf c 2
  have a1 := hadd 256
  have a2 := hadd 512
  simp only [Nat.count_zero, Nat.zero_add, Nat.reduceAdd] at a1 a2
  simp only [Fin.val_zero, Fin.val_one, Fin.val_two, Nat.mul_zero, Nat.mul_one, Nat.reduceMul, Nat.zero_add] at h0 h1 h2
  have hm : ∀ (z : Fin 4) (j : Fin 256), t.val = 256 * z.val + j.val →
      counts (F := Ideal) (BitVec.ofNat 32 c.val) rt (ix2 ⟨256 + j.val, by omega⟩ z) - 1
        = ((Nat.count (fun k => e (256 * z.val + k) / 4 = c.val) j.val : ℕ) : EReal) :=
    fun z j h => counts_hi_mine he hf c z j (by rw [← h]; exact ht)
  rw [← fptosi_nat (n := gr e t.val) (by omega)]
  pointwise [rank, k0_pay12]
  congr 1
  have hlt' := t.isLt
  change (if h : t.val < 256 then counts (F := Ideal) (BitVec.ofNat 32 c.val) rt (ix2 ⟨256 + t.val, by omega⟩ 0) - 1
    else if h : t.val - 256 < 256 then counts (F := Ideal) (BitVec.ofNat 32 c.val) rt (ix2 ⟨256 + (t.val - 256), by omega⟩ 1) - 1
        + counts (F := Ideal) (BitVec.ofNat 32 c.val) rt (ix2 511 0)
    else if h : t.val - 256 - 256 < 256 then counts (F := Ideal) (BitVec.ofNat 32 c.val) rt (ix2 ⟨256 + (t.val - 256 - 256), by omega⟩ 2) - 1
        + (counts (F := Ideal) (BitVec.ofNat 32 c.val) rt (ix2 511 0) + counts (F := Ideal) (BitVec.ofNat 32 c.val) rt (ix2 511 1))
    else counts (F := Ideal) (BitVec.ofNat 32 c.val) rt (ix2 ⟨256 + (t.val - 256 - 256 - 256), by omega⟩ 3) - 1
        + (counts (F := Ideal) (BitVec.ofNat 32 c.val) rt (ix2 511 0) + counts (F := Ideal) (BitVec.ofNat 32 c.val) rt (ix2 511 1)
          + counts (F := Ideal) (BitVec.ofNat 32 c.val) rt (ix2 511 2))) = _
  split_ifs with d0 d1 d2
  · rw [hm 0 ⟨t.val, d0⟩ (by simp), hsum 0 t.val (by omega)]
    simp
  · rw [hm 1 ⟨t.val - 256, d1⟩ (by simp; omega), hsum 256 (t.val - 256) (by omega), h0, add_comm, ← Nat.cast_add]
    simp
  · rw [hm 2 ⟨t.val - 256 - 256, d2⟩ (by simp; omega), hsum 512 (t.val - 256 - 256) (by omega), h0, h1, a1, add_comm, ← Nat.cast_add, ← Nat.cast_add]
    simp
  · rw [hm 3 ⟨t.val - 256 - 256 - 256, by omega⟩ (by simp; omega), hsum 768 (t.val - 256 - 256 - 256) (by omega), h0, h1, h2, a2, a1, add_comm,
      ← Nat.cast_add, ← Nat.cast_add, ← Nat.cast_add]
    simp

/-- The gathering matrix: a 1 where the token is the device's own and the column is its rank. -/
theorem gatherM_read (he : Routes e rt) (hf : Fits e) (c : Fin 16) (t : Fin 1024) (k : Fin 128) :
    gatherM (F := Ideal) (BitVec.ofNat 32 c.val) rt (ix2 t k) = if e t.val / 4 = c.val ∧ gr e t.val = k.val then 1 else 0 := by
  have hk := k.isLt
  have h : gatherM (F := Ideal) (BitVec.ofNat 32 c.val) rt (ix2 t k)
      = Scalar.select (IntOp.andi (k0_pay6 (F := Ideal) (BitVec.ofNat 32 c.val) rt (ix2 t 0))
          (IntOp.cmpi .slt (rank (F := Ideal) (BitVec.ofNat 32 c.val) rt (ix2 t 0)) 128#32))
        (FloatOps.sitofp (F := Ideal) .f32 (BitVec.setWidth 32
          (IntOp.cmpi .eq (rank (F := Ideal) (BitVec.ofNat 32 c.val) rt (ix2 t 0)) (BitVec.ofNat 32 k.val)))) 0 := by
    pointwise [gatherM, k0_pay13, rank]
  rw [h, mine_read he hf]
  by_cases ht : e t.val / 4 = c.val
  · have hg := gr_lt hf t.isLt
    rw [rank_read he hf c t ht, cmpi_slt_nat (by omega) (by omega), cmpi_eq_nat (by omega) (by omega), WordCmp.andi_ofBool, sitofp_bit,
      WordCmp.select_ofBool, if_pos (by simp [ht, hg])]
    simp [ht]
  · rw [WordCmp.cmpi_slt_eq, WordCmp.andi_ofBool, WordCmp.select_ofBool, if_neg (by simp [ht]), if_neg (by simp [ht])]

/-- A sum weighed by the gathering matrix's column at an own token's rank is that token's term. -/
theorem gather_sum (he : Routes e rt) (hf : Fits e) (c : Fin 16) (t : Fin 1024) (ht : e t.val / 4 = c.val) (f : Fin 1024 → EReal) :
    ∑ u : Fin 1024, gatherM (F := Ideal) (BitVec.ofNat 32 c.val) rt (ix2 u ⟨gr e t.val, gr_lt hf t.isLt⟩) * f u = f t := by
  simp only [gatherM_read he hf]
  refine sum_pick (fun u : Fin 1024 => e u.val / 4 = c.val ∧ gr e u.val = gr e t.val) f t fun u => ⟨fun h => ?_, fun h => ?_⟩
  · exact Fin.ext (gr_inj (h.1.trans ht.symm) h.2)
  · subst h; exact ⟨ht, rfl⟩

/-- The gathered tokens at an own token's rank. -/
theorem xg_read (he : Routes e rt) (hf : Fits e) (c : Fin 16) (x : Vec Ideal S1024x512 .f32) (t : Fin 1024) (ht : e t.val / 4 = c.val) (d : Fin 512) :
    xg (F := Ideal) (BitVec.ofNat 32 c.val) x rt (ix2 ⟨gr e t.val, gr_lt hf t.isLt⟩ d) = x (ix2 t d) := by
  refine Eq.trans ?_ (gather_sum he hf c t ht fun u => x (ix2 u d))
  pointwise [xg, k0_pay14, k0_pay1, gatherM]

variable (x : Vec Ideal S1024x512 .f32) (rw' : Vec Ideal S512x64 .f32) (ew : Vec Ideal S4x512x1024 .f32)

/-- The gathered routed weights, and the gathered experts' numbers. -/
theorem coefG_read (he : Routes e rt) (hf : Fits e) (c : Fin 16) (t : Fin 1024) (ht : e t.val / 4 = c.val) :
    k0_pay17 (F := Ideal) (coef x rw' rt) (gatherM (BitVec.ofNat 32 c.val) rt) (rtF rt) (ix2 ⟨gr e t.val, gr_lt hf t.isLt⟩ 0)
      = coef (F := Ideal) x rw' rt (ix2 t 0) := by
  refine Eq.trans ?_ (gather_sum he hf c t ht fun u => coef (F := Ideal) x rw' rt (ix2 u 0))
  pointwise [k0_pay17, k0_pay16]

/-- The gathered row of a token holds its expert's number. -/
theorem routeG_read (he : Routes e rt) (hf : Fits e) (c : Fin 16) (t : Fin 1024) (ht : e t.val / 4 = c.val) :
    k0_pay18 (F := Ideal) (coef x rw' rt) (gatherM (BitVec.ofNat 32 c.val) rt) (rtF rt) (ix2 ⟨gr e t.val, gr_lt hf t.isLt⟩ 0)
      = ((e t.val : ℕ) : EReal) := by
  have hl := hf.lt t.val
  have h : rtF (F := Ideal) rt (ix2 t 0) = ((e t.val : ℕ) : EReal) := by
    have : rtF (F := Ideal) rt (ix2 t 0) = FloatOps.sitofp (F := Ideal) .f32 (rt (ix2 t 0)) := by pointwise [rtF, k0_pay15, k0_pay2]
    rw [this, he t, sitofp_nat (by omega)]
  refine Eq.trans ?_ ((gather_sum he hf c t ht fun u => rtF (F := Ideal) rt (ix2 u 0)).trans h)
  pointwise [k0_pay18, k0_pay16]

/-- One expert's weights, element by element. -/
theorem slab_read (q : Fin 4) (d : Fin 512) (o : Fin 1024) : slab q ew (ix3 0 d o) = ew (ix3 q d o) := by
  unfold slab
  refine congrArg ew (funext fun a => Fin.ext ?_)
  match a with
  | 0 => exact Nat.add_zero _
  | 1 => show 0 + 1 * d.val = d.val; omega
  | 2 => show 0 + 1 * o.val = o.val; omega

/-- The numbers of a device's four experts, as the words the kernel computes them in. -/
theorem word_toInt (c : Fin 16) :
    ((Scalar.muli (BitVec.ofNat 32 c.val) 4#32).toInt = 4 * c.val) ∧ (Scalar.addi (Scalar.muli (BitVec.ofNat 32 c.val) 4#32) 1#32).toInt = 4 * c.val + 1
      ∧ (Scalar.addi (Scalar.muli (BitVec.ofNat 32 c.val) 4#32) 2#32).toInt = 4 * c.val + 2
      ∧ (Scalar.addi (Scalar.muli (BitVec.ofNat 32 c.val) 4#32) 3#32).toInt = 4 * c.val + 3 := by
  revert c; decide

/-- A natural and an integer that is a natural, as extended reals. -/
theorem cast_eq_cast (n m : ℕ) (k : ℤ) (hk : k = m) : (((n : ℕ) : EReal) = (((k : ℤ) : ℝ) : EReal)) ↔ n = m := by
  subst hk
  have e : ((n : ℕ) : EReal) = (((n : ℕ) : ℝ) : EReal) := rfl
  rw [e, EReal.coe_eq_coe_iff]
  simp

/-- The experts' outputs at an own token's rank: the token, weighed, times the weights of the expert it names. -/
theorem yg_read (he : Routes e rt) (hf : Fits e) (c : Fin 16) (t : Fin 1024) (ht : e t.val / 4 = c.val) (o : Fin 1024) :
    yg (F := Ideal) (BitVec.ofNat 32 c.val) x rw' rt ew (ix2 ⟨gr e t.val, gr_lt hf t.isLt⟩ o)
      = ∑ d : Fin 512, (x (ix2 t d) * coef (F := Ideal) x rw' rt (ix2 t 0)) * ew (ix3 ⟨e t.val % 4, Nat.mod_lt _ (by decide)⟩ d o) := by
  obtain ⟨w0, w1, w2, w3⟩ := word_toInt c
  pointwise [yg, k0_pay19, k0_pay20, k0_pay21, k0_pay22]
  simp only [xg_read he hf c x t ht, coefG_read x rw' he hf c t ht, routeG_read x rw' he hf c t ht, slab_read,
    cast_eq_cast _ (4 * c.val) _ w0, cast_eq_cast _ (4 * c.val + 1) _ w1, cast_eq_cast _ (4 * c.val + 2) _ w2, cast_eq_cast _ (4 * c.val + 3) _ w3]
  have hq : e t.val % 4 < 4 := Nat.mod_lt _ (by decide)
  have hz : ∀ q : Fin 4, (∑ d : Fin 512, x (ix2 t d) * 0 * ew (ix3 q d o)) = 0 := fun q => Finset.sum_eq_zero fun d _ => by rw [mul_zero, zero_mul]
  have key : ∀ (q : Fin 4) (n : ℕ) (_ : n = 4 * c.val + q.val),
      (∑ d : Fin 512, (x (ix2 t d) * if e t.val = n then coef (F := Ideal) x rw' rt (ix2 t 0) else 0) * ew (ix3 q d o))
        = if e t.val % 4 = q.val then ∑ d : Fin 512, (x (ix2 t d) * coef (F := Ideal) x rw' rt (ix2 t 0)) * ew (ix3 q d o) else 0 := by
    intro q n hn
    have hql := q.isLt
    by_cases hqe : e t.val % 4 = q.val
    · rw [if_pos hqe, if_pos (show e t.val = n by omega)]
    · rw [if_neg hqe, if_neg (show ¬e t.val = n by omega), hz]
  rw [key 0 (4 * c.val) rfl, key 1 (4 * c.val + 1) rfl, key 2 (4 * c.val + 2) rfl, key 3 (4 * c.val + 3) rfl]
  obtain ⟨q, hqe⟩ : ∃ q : Fin 4, q = ⟨e t.val % 4, hq⟩ := ⟨_, rfl⟩
  have hqv : e t.val % 4 = q.val := by rw [hqe]
  rw [← hqe, hqv]
  clear hqe hqv key
  fin_cases q <;> simp

end Cert.Moe

end
-- ==== Proof.Staged.lean ====
/-
What a device stages for its peers and what it makes of the rows they sent it, over the exact extended reals: row
`64 z + 16 b + s` of the staging buffer is the expert's output of the device's own token at slot `s` of chunk `4 z + b`;
and row `r` of the result is the shared product plus row `16 (owner) + slot` of the rows received.
-/
module

public import proofs.«01_k».proof.Proof.Gathered

@[expose] public section

set_option maxRecDepth 16384

noncomputable section

namespace Cert.Moe

open Cert.KernelIdeal Cert.KernelIdeal.Gen
open Idealize.ShloMosaic Idealize.ShloMosaic.TcCoe

variable {e : ℕ → ℕ} {rt : Vec Ideal S1024x1 .i32}

/-- The weight of token `j` of a block in the staged row `p`, from the token's own bit and its count. -/
def toRow (mine : BitVec 1) (cnt : EReal) (j : Fin 256) (p : Fin 64) : EReal :=
  Scalar.select (IntOp.andi mine (IntOp.cmpi .slt (FloatOps.fptosi (F := Ideal) (φ := .f32) 32 (cnt - 1)) 16#32))
    (FloatOps.sitofp (F := Ideal) .f32 (BitVec.setWidth 32 (IntOp.cmpi .eq
      (IntOp.addi (IntOp.muli (Scalar.select
        (IntOp.andi
          (IntOp.cmpi .ne (IntOp.subi (BitVec.setWidth 32 (IntOp.cmpi .sgt (BitVec.ofNat 32 j.val) 0#32))
              (BitVec.setWidth 32 (IntOp.cmpi .slt (BitVec.ofNat 32 j.val) 0#32)))
            (Scalar.subi (Scalar.extui (Scalar.cmpi .sgt 64#32 0#32)) (Scalar.extui (Scalar.cmpi .slt 64#32 0#32))))
          (IntOp.cmpi .ne (IntOp.remsi .vector (BitVec.ofNat 32 j.val) 64#32) 0#32))
        (IntOp.subi (IntOp.divsi .vector (BitVec.ofNat 32 j.val) 64#32) 1#32)
        (IntOp.divsi .vector (BitVec.ofNat 32 j.val) 64#32)) 16#32)
        (FloatOps.fptosi (F := Ideal) (φ := .f32) 32 (cnt - 1))) (BitVec.ofNat 32 p.val)))) 0

/-- The weight of a token at the rank `k`, from the token's own bit and its rank. -/
def toRank (mine : BitVec 1) (rk : BitVec 32) (k : Fin 128) : EReal :=
  Scalar.select (IntOp.andi mine (IntOp.cmpi .slt rk 128#32))
    (FloatOps.sitofp (F := Ideal) .f32 (BitVec.setWidth 32 (IntOp.cmpi .eq rk (BitVec.ofNat 32 k.val)))) 0

/-- Every staged block is the same product of the two weights and the experts' outputs. -/
theorem stageBlk_sum (w : BitVec 32) (x : Vec Ideal S1024x512 .f32) (rw' : Vec Ideal S512x64 .f32) (ew : Vec Ideal S4x512x1024 .f32)
    (z : Fin 4) (p : Fin 64) (o : Fin 1024) :
    stageBlk (F := Ideal) w x rw' rt ew z (ix2 p o) =
      ∑ k : Fin 128, (∑ j : Fin 256,
        toRow (k0_pay6 w rt (ix2 ⟨256 * z.val + j.val, by omega⟩ 0)) (counts (F := Ideal) w rt (ix2 ⟨j.val, by omega⟩ z)) j p
          * toRank (k0_pay6 w rt (ix2 ⟨256 * z.val + j.val, by omega⟩ 0)) (rank (F := Ideal) w rt (ix2 ⟨256 * z.val + j.val, by omega⟩ 0)) k)
        * yg (F := Ideal) w x rw' rt ew (ix2 k o) := by
  match z with
  | 0 => pointwise [stageBlk, k0_pay27, lanes, k0_pay23, k0_pay24, k0_pay25, k0_pay26, toRow, toRank]
  | 1 => pointwise [stageBlk, k0_pay34, lanes, k0_pay30, k0_pay28, k0_pay29, k0_pay31, k0_pay32, k0_pay33, toRow, toRank]
  | 2 => pointwise [stageBlk, k0_pay40, lanes, k0_pay35, k0_pay36, k0_pay37, k0_pay38, k0_pay39, toRow, toRank]
  | 3 => pointwise [stageBlk, k0_pay44, lanes, k0_pay41, k0_pay42, k0_pay43, toRow, toRank]

/-- The kernel's floor division of a token's place in its block by 64. -/
theorem floorDiv_word (j : Fin 256) :
    Scalar.select
        (IntOp.andi
          (IntOp.cmpi .ne (IntOp.subi (BitVec.setWidth 32 (IntOp.cmpi .sgt (BitVec.ofNat 32 j.val) 0#32))
              (BitVec.setWidth 32 (IntOp.cmpi .slt (BitVec.ofNat 32 j.val) 0#32)))
            (Scalar.subi (Scalar.extui (Scalar.cmpi .sgt 64#32 0#32)) (Scalar.extui (Scalar.cmpi .slt 64#32 0#32))))
          (IntOp.cmpi .ne (IntOp.remsi .vector (BitVec.ofNat 32 j.val) 64#32) 0#32))
        (IntOp.subi (IntOp.divsi .vector (BitVec.ofNat 32 j.val) 64#32) 1#32)
        (IntOp.divsi .vector (BitVec.ofNat 32 j.val) 64#32) = BitVec.ofNat 32 (j.val / 64) := by
  revert j; decide

/-- Sixteen times a small natural and another, in words. -/
theorem addi_muli_word (a s : ℕ) :
    IntOp.addi (IntOp.muli (BitVec.ofNat 32 a) 16#32) (BitVec.ofNat 32 s) = BitVec.ofNat 32 (16 * a + s) := by
  show BitVec.ofNat 32 a * BitVec.ofNat 32 16 + BitVec.ofNat 32 s = _
  rw [← BitVec.ofNat_mul, ← BitVec.ofNat_add, Nat.mul_comm]

/-- The matrix that places a token in its slot: its one 1 in the token's row is at the token's slot row. -/
theorem toRow_read (he : Routes e rt) (hf : Fits e) (c : Fin 16) (z : Fin 4) (j : Fin 256) (p : Fin 64) :
    toRow (k0_pay6 (F := Ideal) (BitVec.ofNat 32 c.val) rt (ix2 ⟨256 * z.val + j.val, by omega⟩ 0))
        (counts (F := Ideal) (BitVec.ofNat 32 c.val) rt (ix2 ⟨j.val, by omega⟩ z)) j p
      = if e (256 * z.val + j.val) / 4 = c.val ∧ 16 * (j.val / 64) + slot e (256 * z.val + j.val) = p.val then 1 else 0 := by
  unfold toRow
  rw [mine_read he hf]
  dsimp only
  by_cases ht : e (256 * z.val + j.val) / 4 = c.val
  · have hs := slot_lt hf (t := 256 * z.val + j.val) (by omega)
    have hj := j.isLt
    have hp := p.isLt
    rw [slot_read he hf c z j ht, floorDiv_word, addi_muli_word, cmpi_slt_nat (by omega) (by omega), cmpi_eq_nat (by omega) (by omega),
      WordCmp.andi_ofBool, sitofp_bit, WordCmp.select_ofBool, if_pos (by simp [ht, hs])]
    simp [ht]
  · rw [WordCmp.cmpi_slt_eq, WordCmp.andi_ofBool, WordCmp.select_ofBool, if_neg (by simp [ht]), if_neg (by simp [ht])]

/-- The matrix that takes a token from the gathered block: its one 1 is at the token's gathered row. -/
theorem toRank_read (he : Routes e rt) (hf : Fits e) (c : Fin 16) (t : Fin 1024) (ht : e t.val / 4 = c.val) (k : Fin 128) :
    toRank (k0_pay6 (F := Ideal) (BitVec.ofNat 32 c.val) rt (ix2 t 0)) (rank (F := Ideal) (BitVec.ofNat 32 c.val) rt (ix2 t 0)) k
      = if k = ⟨gr e t.val, gr_lt hf t.isLt⟩ then 1 else 0 := by
  have hg := gr_lt hf t.isLt
  have hk := k.isLt
  unfold toRank
  rw [mine_read he hf, rank_read he hf c t ht, cmpi_slt_nat (by omega) (by omega), cmpi_eq_nat (by omega) (by omega),
    WordCmp.andi_ofBool, sitofp_bit, WordCmp.select_ofBool, if_pos (by simp [ht, hg])]
  refine if_congr ?_ rfl rfl
  rw [decide_eq_true_eq, Fin.ext_iff]
  exact eq_comm

/-- The staged row of an own token: the experts' output at its rank. -/
theorem stageBlk_read (he : Routes e rt) (hf : Fits e) (c : Fin 16) (x : Vec Ideal S1024x512 .f32) (rw' : Vec Ideal S512x64 .f32)
    (ew : Vec Ideal S4x512x1024 .f32) (z : Fin 4) (j : Fin 256) (ht : e (256 * z.val + j.val) / 4 = c.val) (p : Fin 64)
    (hp : p.val = 16 * (j.val / 64) + slot e (256 * z.val + j.val)) (o : Fin 1024) :
    stageBlk (F := Ideal) (BitVec.ofNat 32 c.val) x rw' rt ew z (ix2 p o)
      = yg (F := Ideal) (BitVec.ofNat 32 c.val) x rw' rt ew (ix2 ⟨gr e (256 * z.val + j.val), gr_lt hf (by omega)⟩ o) := by
  rw [stageBlk_sum]
  have hin : ∀ k : Fin 128, (∑ j' : Fin 256,
        toRow (k0_pay6 (F := Ideal) (BitVec.ofNat 32 c.val) rt (ix2 ⟨256 * z.val + j'.val, by omega⟩ 0))
            (counts (F := Ideal) (BitVec.ofNat 32 c.val) rt (ix2 ⟨j'.val, by omega⟩ z)) j' p
          * toRank (k0_pay6 (F := Ideal) (BitVec.ofNat 32 c.val) rt (ix2 ⟨256 * z.val + j'.val, by omega⟩ 0))
            (rank (F := Ideal) (BitVec.ofNat 32 c.val) rt (ix2 ⟨256 * z.val + j'.val, by omega⟩ 0)) k)
      = if k = ⟨gr e (256 * z.val + j.val), gr_lt hf (by omega)⟩ then 1 else 0 := by
    intro k
    simp only [toRow_read he hf c z _ p]
    rw [sum_pick (fun j' : Fin 256 => e (256 * z.val + j'.val) / 4 = c.val ∧ 16 * (j'.val / 64) + slot e (256 * z.val + j'.val) = p.val) _ j,
      toRank_read he hf c ⟨256 * z.val + j.val, by omega⟩ ht]
    intro j'
    constructor
    · rintro ⟨h1, h2⟩
      have s1 := slot_lt hf (t := 256 * z.val + j'.val) (by omega)
      have s2 := slot_lt hf (t := 256 * z.val + j.val) (by omega)
      have := slot_inj (e := e) (t := 256 * z.val + j'.val) (u := 256 * z.val + j.val) (by omega) (h1.trans ht.symm) (by omega)
      exact Fin.ext (by omega)
    · rintro rfl
      exact ⟨ht, hp.symm⟩
  simp only [hin]
  exact sum_pick (fun k : Fin 128 => k = ⟨gr e (256 * z.val + j.val), gr_lt hf (by omega)⟩) _ _ fun k => Iff.rfl

/-! ## The result -/

/-- A device's own rows of the routes and the tokens are rows `64 c …` of the arrays. -/
theorem rtMine_read (c : Dev nD) (r : Fin 64) : rtMine c rt (ix2 r 0) = rt (ix2 ⟨64 * c.val + r.val, by have := c.isLt; change c.val < 16 at this; omega⟩ 0) := by
  have h : ∀ c : Dev nD, k0_off3 c = ![64 * c.val, 0] := by decide
  unfold rtMine
  refine congrArg rt (funext fun a => Fin.ext ?_)
  match a with
  | 0 => show k0_off3 c 0 + 1 * r.val = 64 * c.val + r.val; rw [h c]; show 64 * c.val + 1 * r.val = _; omega
  | 1 => show k0_off3 c 1 + 1 * 0 = 0; rw [h c]; rfl

/-- A row of the device's own chunk of tokens. -/
theorem xMine_read (c : Dev nD) (x : Vec Ideal S1024x512 .f32) (r : Fin 64) (d : Fin 512) :
    xMine c x (ix2 r d) = x (ix2 ⟨64 * c.val + r.val, by have := c.isLt; change c.val < 16 at this; omega⟩ d) := by
  have h : ∀ c : Dev nD, k0_off4 c = ![64 * c.val, 0] := by decide
  unfold xMine
  refine congrArg x (funext fun a => Fin.ext ?_)
  match a with
  | 0 => show k0_off4 c 0 + 1 * r.val = 64 * c.val + r.val; rw [h c]; show 64 * c.val + 1 * r.val = _; omega
  | 1 => show k0_off4 c 1 + 1 * d.val = d.val; rw [h c]; show 0 + 1 * d.val = _; omega

/-- Which of a device's own tokens a row of the received rows belongs to, from the word of the token's place. -/
theorem place_read (he : Routes e rt) (hf : Fits e) (c : Dev nD) (r : Fin 64) :
    k0_pay45 (F := Ideal) (rtMine c rt) (ix2 r 0) = BitVec.ofNat 32 (e (64 * c.val + r.val) / 4) := by
  pointwise [k0_pay45]
  rw [rtMine_read, he, divsi_four (hf.lt _)]

/-- The count of own tokens up to a token, at its owner. -/
theorem ownCount_read (he : Routes e rt) (hf : Fits e) (c : Dev nD) (r : Fin 64) (q : Fin 16) :
    k0_pay46 (F := Ideal) (rtMine c rt) (ix2 r q)
      = (if q.val = e (64 * c.val + r.val) / 4 then (1 : EReal) else 0)
        * ((Nat.count (fun k => e (64 * c.val + k) / 4 = q.val) (r.val + 1) : ℕ) : EReal) := by
  have hq := q.isLt
  have hl := hf.lt (64 * c.val + r.val)
  have hone : ∀ r : Fin 64, FloatOps.sitofp (F := Ideal) .f32 (BitVec.setWidth 32
        (IntOp.cmpi .eq (k0_pay45 (F := Ideal) (rtMine c rt) (ix2 r 0)) (BitVec.ofNat 32 q.val)))
      = if e (64 * c.val + r.val) / 4 = q.val then (1 : EReal) else 0 := by
    intro r
    have hl := hf.lt (64 * c.val + r.val)
    rw [place_read he hf, cmpi_eq_nat (by omega) (by omega), sitofp_bit]
    simp only [decide_eq_true_eq]
  have hle : ∀ k : Fin 64, FloatOps.sitofp (F := Ideal) .f32 (BitVec.setWidth 32
        (IntOp.cmpi .sle (BitVec.ofNat 32 k.val) (BitVec.ofNat 32 r.val)))
      = if (0 ≤ k.val ∧ k.val < 0 + (r.val + 1)) then (1 : EReal) else 0 := by
    intro k
    rw [cmpi_sle_nat (by omega) (by omega), sitofp_bit]
    refine if_congr ?_ rfl rfl
    rw [decide_eq_true_eq]
    omega
  have hw := count_window (fun k => e (64 * c.val + k) / 4 = q.val) 0 (r.val + 1) (64 - (r.val + 1))
  rw [show 0 + (r.val + 1) + (64 - (r.val + 1)) = 64 by omega] at hw
  simp only [Nat.zero_add] at hw
  have h : k0_pay46 (F := Ideal) (rtMine c rt) (ix2 r q)
      = FloatOps.sitofp (F := Ideal) .f32 (BitVec.setWidth 32
          (IntOp.cmpi .eq (k0_pay45 (F := Ideal) (rtMine c rt) (ix2 r 0)) (BitVec.ofNat 32 q.val)))
        * ∑ k : Fin 64, FloatOps.sitofp (F := Ideal) .f32 (BitVec.setWidth 32
              (IntOp.cmpi .sle (BitVec.ofNat 32 k.val) (BitVec.ofNat 32 r.val)))
            * FloatOps.sitofp (F := Ideal) .f32 (BitVec.setWidth 32
              (IntOp.cmpi .eq (k0_pay45 (F := Ideal) (rtMine c rt) (ix2 k 0)) (BitVec.ofNat 32 q.val))) := by
    pointwise [k0_pay46]
  rw [h]
  simp only [hone, hle, ind_mul]
  rw [sum_ind (fun k => (0 ≤ k ∧ k < 0 + (r.val + 1)) ∧ e (64 * c.val + k) / 4 = q.val)]
  simp only [Nat.zero_add, hw]
  congr 1
  exact if_congr eq_comm rfl rfl

/-- The count at its own owner, less one: the token's slot. -/
theorem ownSlot_read (he : Routes e rt) (hf : Fits e) (c : Dev nD) (r : Fin 64) :
    IntOp.subi (FloatOps.fptosi (F := Ideal) (φ := .f32) 32 (∑ q : Fin 16, k0_pay46 (F := Ideal) (rtMine c rt) (ix2 r q))) 1#32
      = BitVec.ofNat 32 (slot e (64 * c.val + r.val)) := by
  have hc := c.isLt
  change c.val < 16 at hc
  have hl := hf.lt (64 * c.val + r.val)
  have hs := slot_lt hf (t := 64 * c.val + r.val) (by omega)
  have hslot : slot e (64 * c.val + r.val) = Nat.count (fun k => e (64 * c.val + k) / 4 = e (64 * c.val + r.val) / 4) r.val := by
    unfold slot
    rw [show (64 * c.val + r.val) / 64 = c.val by omega, show (64 * c.val + r.val) % 64 = r.val by omega]
  have hsum : (∑ q : Fin 16, k0_pay46 (F := Ideal) (rtMine c rt) (ix2 r q)) = ((slot e (64 * c.val + r.val) + 1 : ℕ) : EReal) := by
    simp only [ownCount_read he hf]
    rw [sum_pick (fun q : Fin 16 => q.val = e (64 * c.val + r.val) / 4) _ ⟨e (64 * c.val + r.val) / 4, by omega⟩ fun q => by rw [Fin.ext_iff],
      Nat.count_succ, if_pos rfl, hslot]
  rw [hsum, fptosi_nat (by omega), hslot]
  show BitVec.ofNat 32 (_ + 1) - 1#32 = _
  rw [BitVec.ofNat_add]
  exact BitVec.add_sub_cancel _ _

/-- The weights of the received rows: a 1 at the row of the token's owner and slot. -/
theorem pick_read (he : Routes e rt) (hf : Fits e) (c : Dev nD) (r : Fin 64) (q : Fin 256) :
    k0_pay47 (F := Ideal) (k0_pay45 (rtMine c rt)) (k0_pay46 (rtMine c rt)) (ix2 r q)
      = if q.val = 16 * (e (64 * c.val + r.val) / 4) + slot e (64 * c.val + r.val) then 1 else 0 := by
  have hc := c.isLt
  change c.val < 16 at hc
  have hq := q.isLt
  have hl := hf.lt (64 * c.val + r.val)
  have hs := slot_lt hf (t := 64 * c.val + r.val) (by omega)
  have h : k0_pay47 (F := Ideal) (k0_pay45 (rtMine c rt)) (k0_pay46 (rtMine c rt)) (ix2 r q)
      = Scalar.select (IntOp.cmpi .slt (IntOp.subi (FloatOps.fptosi (F := Ideal) (φ := .f32) 32
            (∑ q : Fin 16, k0_pay46 (F := Ideal) (rtMine c rt) (ix2 r q))) 1#32) 16#32)
        (FloatOps.sitofp (F := Ideal) .f32 (BitVec.setWidth 32 (IntOp.cmpi .eq
          (IntOp.addi (IntOp.muli (k0_pay45 (F := Ideal) (rtMine c rt) (ix2 r 0)) 16#32)
            (IntOp.subi (FloatOps.fptosi (F := Ideal) (φ := .f32) 32
              (∑ q : Fin 16, k0_pay46 (F := Ideal) (rtMine c rt) (ix2 r q))) 1#32)) (BitVec.ofNat 32 q.val)))) 0 := by
    pointwise [k0_pay47]
  rw [h, ownSlot_read he hf, place_read he hf, addi_muli_word, cmpi_slt_nat (by omega) (by omega), cmpi_eq_nat (by omega) (by omega),
    sitofp_bit, WordCmp.select_ofBool, if_pos (by simp [hs])]
  refine if_congr ?_ rfl rfl
  rw [decide_eq_true_eq]
  exact eq_comm

/-- A row of a device's block of the result: the shared product of its token, and the received row of the token's owner
    and slot. -/
theorem result_read (he : Routes e rt) (hf : Fits e) (c : Dev nD) (x : Vec Ideal S1024x512 .f32) (sw : Vec Ideal S512x1024 .f32)
    (rp : Vec Ideal S256x1024 .bf16) (r : Fin 64) (o : Fin 1024) (q : Fin 256)
    (hq : q.val = 16 * (e (64 * c.val + r.val) / 4) + slot e (64 * c.val + r.val)) :
    result (F := Ideal) c x rt sw rp (ix2 r o)
      = (∑ d : Fin 512, x (ix2 ⟨64 * c.val + r.val, by have := c.isLt; change c.val < 16 at this; omega⟩ d) * sw (ix2 d o)) + rp (ix2 q o) := by
  have h : result (F := Ideal) c x rt sw rp (ix2 r o)
      = (∑ d : Fin 512, xMine c x (ix2 r d) * sw (ix2 d o))
        + ∑ q : Fin 256, k0_pay47 (F := Ideal) (k0_pay45 (rtMine c rt)) (k0_pay46 (rtMine c rt)) (ix2 r q) * rp (ix2 q o) := by
    pointwise [result, k0_pay49, k0_pay48]
  rw [h]
  congr 1
  · exact Finset.sum_congr rfl fun d _ => by rw [xMine_read]
  · simp only [pick_read he hf]
    exact sum_pick (fun q' : Fin 256 => q'.val = 16 * (e (64 * c.val + r.val) / 4) + slot e (64 * c.val + r.val)) (fun q => rp (ix2 q o)) q
      fun q' => by rw [← hq, Fin.ext_iff]

end Cert.Moe

end
-- ==== Proof.Reference.lean ====
/-
What the reference computes of one token, over the exact extended reals: the shared product plus the softmax weight of
the token's expert times the token's product with that expert's weights.
-/
module

public import proofs.«01_k».proof.Proof.Counting
public import proofs.«01_k».proof.Proof.Gathered
public import proofs.«01_k».proof.Proof.Gen.ReferenceIdeal
public import Idealize.ShloMosaic.Lib.ReduceAll

@[expose] public section

set_option maxRecDepth 16384

noncomputable section

namespace Cert.Moe

open Cert.ReferenceIdeal Cert.ReferenceIdeal.Gen
open Idealize.ShloMosaic Idealize.ShloMosaic.TcCoe

variable {e : ℕ → ℕ} {rt : IVec S1024x1 32}

/-- The routing score of a token for an expert. -/
def score (x : FVec Ideal S1024x512 .f32) (rw' : FVec Ideal S512x64 .f32) (t : Fin 1024) (l : Fin 64) : EReal :=
  ∑ d : Fin 512, x (ix2 t d) * rw' (ix2 d l)

/-- The exponential of a score less the token's largest score. -/
def expo (x : FVec Ideal S1024x512 .f32) (rw' : FVec Ideal S512x64 .f32) (t : Fin 1024) (l : Fin 64) : EReal :=
  Ideal.exp (score x rw' t l - Finset.fold max (Ideal.ofBits .f32 4286578688#32) (fun l' => score x rw' t l') Finset.univ)

/-- The softmax weight of an expert for a token. -/
def weight (x : FVec Ideal S1024x512 .f32) (rw' : FVec Ideal S512x64 .f32) (t : Fin 1024) (l : Fin 64) : EReal :=
  Ideal.div (expo x rw' t l) (∑ l' : Fin 64, expo x rw' t l')

/-! ## The reference's operations, by parts -/

/-- The scores of all tokens. -/
def refScores (x : FVec Ideal S1024x512 .f32) (rw' : FVec Ideal S512x64 .f32) : FVec Ideal S1024x64 .f32 :=
  Host.dotGeneral dot_S1024x512_S512x64_S1024x64_1_0_0_1_n_n none x rw'

/-- The exponentials of all tokens. -/
def refExps (x : FVec Ideal S1024x512 .f32) (rw' : FVec Ideal S512x64 .f32) : FVec Ideal S1024x64 .f32 :=
  Host.exp (subf (refScores x rw') (broadcastInDim S1024x64 ![0, 1] bcast_S1024x1_S1024x64_0_1 (broadcastInDim S1024x1 ![0] bcast_S1024_S1024x1_0
    (Host.reduce FloatOps.maximumf (refScores x rw') (constant S_ .f32 0xFF800000#32) reducesTo_S1024x64_S1024_d1 h_S_))))

/-- The softmax of all tokens. -/
def refProbs (x : FVec Ideal S1024x512 .f32) (rw' : FVec Ideal S512x64 .f32) : FVec Ideal S1024x64 .f32 :=
  Host.divf (refExps x rw') (broadcastInDim S1024x64 ![0, 1] bcast_S1024x1_S1024x64_0_1 (broadcastInDim S1024x1 ![0] bcast_S1024_S1024x1_0
    (Host.reduceAdd (refExps x rw') (constant S_ .f32 0x00000000#32) reducesTo_S1024x64_S1024_d1 h_S_)))

/-- The routes, the negative ones counted from the end, as the index of the softmax's row. -/
def refPick (rt : IVec S1024x1 32) : IVec S1024x1x1 32 :=
  shapeCast S1024x1x1 (select (cmpi .slt rt (broadcastInDim S1024x1 ![] bcast_S_S1024x1 (constantI S_ 32 0#32)))
    (addi rt (broadcastInDim S1024x1 ![] bcast_S_S1024x1 (constantI S_ 32 64#32))) rt) shapeCasts_S1024x1_S1024x1x1

/-- Which routes are in range. -/
def refInRange (rt : IVec S1024x1 32) : IVec S1024x1x1 1 :=
  andi (cmpi .sge (refPick rt) (broadcastInDim S1024x1x1 ![] bcast_S_S1024x1x1 (constantI S_ 32 0#32)))
    (cmpi .sle (refPick rt) (broadcastInDim S1024x1x1 ![0, 1, 2] bcast_S1x1x1_S1024x1x1_0_1_2
      (broadcastInDim S1x1x1 ![2] bcast_S1_S1x1x1_2 (constantI S1 32 63#32))))

/-- The routes, the negative ones counted from the end, as the index of the experts' weights. -/
def refExpert (rt : IVec S1024x1 32) : IVec S1024x1 32 :=
  broadcastInDim S1024x1 ![0] bcast_S1024_S1024x1_0
    (select (cmpi .slt (shapeCast S1024 rt shapeCasts_S1024x1_S1024) (broadcastInDim S1024 ![] bcast_S_S1024 (constantI S_ 32 0#32)))
      (addi (shapeCast S1024 rt shapeCasts_S1024x1_S1024) (broadcastInDim S1024 ![] bcast_S_S1024 (constantI S_ 32 64#32)))
      (shapeCast S1024 rt shapeCasts_S1024x1_S1024))

/-- Each token's softmax weight of its expert. -/
def refCoef (x : FVec Ideal S1024x512 .f32) (rw' : FVec Ideal S512x64 .f32) (rt : IVec S1024x1 32) : FVec Ideal S1024x1 .f32 :=
  select (Host.reduce IntOp.andi (refInRange rt) (constantI S_ 1 1#1) reducesTo_S1024x1x1_S1024x1_d2 h_S_)
    (Host.gather gather_S1024x64_S1024x1x1_S1024x1_n_1_0_0_1_2_11 (refProbs x rw') (refPick rt))
    (broadcastInDim S1024x1 ![] bcast_S_S1024x1 (constant S_ .f32 0x7FC00000#32))

/-- The reference's result. -/
def refOut (x : FVec Ideal S1024x512 .f32) (rw' : FVec Ideal S512x64 .f32) (rt : IVec S1024x1 32) (ew : FVec Ideal S64x512x1024 .f32)
    (sw : FVec Ideal S512x1024 .f32) : FVec Ideal S1024x1024 .f32 :=
  addf (Host.dotGeneral dot_S1024x512_S512x1024_S1024x1024_1_0_0_1_n_n none x sw)
    (mulf (broadcastInDim S1024x1024 ![0, 1] bcast_S1024x1_S1024x1024_0_1 (refCoef x rw' rt))
      (Host.dotGeneral dot_S1024x512_S1024x512x1024_S1024x1024_1_1_n_2_0_0 none x
        (Host.gather gather_S64x512x1024_S1024x1_S1024x512x1024_12_0_n_n_0_1_15121024 ew (refExpert rt))))

/-! ## Each part at an index -/

/-- The reference's exponentials, at a token and an expert; -/
theorem refExps_read (x : FVec Ideal S1024x512 .f32) (rw' : FVec Ideal S512x64 .f32) (t : Fin 1024) (l : Fin 64) :
    refExps x rw' (ix2 t l) = expo x rw' t l := by
  pointwise [refExps, refScores, expo, score]

/-- and its softmax weights. -/
theorem refProbs_read (x : FVec Ideal S1024x512 .f32) (rw' : FVec Ideal S512x64 .f32) (t : Fin 1024) (l : Fin 64) :
    refProbs x rw' (ix2 t l) = weight x rw' t l := by
  pointwise [refProbs, weight]
  simp only [refExps_read]

/-- A route in range is what the wrapped route is. -/
theorem wrap_word {n : ℕ} (h : n < 64) (a : BitVec 32) :
    Scalar.select (IntOp.cmpi .slt (BitVec.ofNat 32 n) 0#32) a (BitVec.ofNat 32 n) = BitVec.ofNat 32 n := by
  rw [cmpi_slt_nat (by omega) (by omega), WordCmp.select_ofBool, if_neg (by simp)]

/-- The index by which the reference picks a token's weight is its expert's number; -/
theorem refPick_read (he : Routes e rt) (hf : Fits e) (t : Fin 1024) : refPick rt (ix3 t 0 0) = BitVec.ofNat 32 (e t.val) := by
  pointwise [refPick]
  rw [he t, wrap_word (hf.lt _)]

/-- so is the index by which it picks the expert's weights; -/
theorem refExpert_read (he : Routes e rt) (hf : Fits e) (t : Fin 1024) : refExpert rt (ix2 t 0) = BitVec.ofNat 32 (e t.val) := by
  pointwise [refExpert]
  rw [he t, wrap_word (hf.lt _)]

/-- and no index is out of range. -/
theorem refInRange_read (he : Routes e rt) (hf : Fits e) (i : S1024x1x1.Idx) : refInRange rt i = 1#1 := by
  idx_vars i
  obtain rfl : i1 = 0 := Subsingleton.elim _ _
  obtain rfl : i2 = 0 := Subsingleton.elim _ _
  have h := hf.lt i0.val
  pointwise [refInRange]
  rw [refPick_read he hf, cmpi_sle_nat (by omega) (by omega), WordCmp.cmpi_sge_ofNat (by omega) (by omega), WordCmp.andi_ofBool,
    decide_eq_true (Nat.zero_le _), decide_eq_true (show e i0.val ≤ 63 by omega)]
  rfl

/-- A number below `2 ^ 31` read from its word, clamped at a bound it keeps. -/
theorem clamp_word {n b : ℕ} (h : n ≤ b) (hb : b < 2 ^ 31) : min (BitVec.ofNat 32 n).toInt.toNat b = n := by
  rw [WordCmp.toInt_ofNat_of_lt (by omega)]
  omega

/-- The softmax row's entry at a token's route. -/
theorem pickRow_read (p : FVec Ideal S1024x64 .f32) (idx : IVec S1024x1x1 32) (t : Fin 1024) (l : Fin 64)
    (h : idx (ix3 t 0 0) = BitVec.ofNat 32 l.val) :
    Host.gather gather_S1024x64_S1024x1x1_S1024x1_n_1_0_0_1_2_11 p idx (ix2 t 0) = p (ix2 t l) := by
  have hl := l.isLt
  unfold Host.gather
  refine congrArg p (funext fun a => Fin.ext ?_)
  match a with
  | 0 =>
    show GatherDims.start _ _ _ 0 + GatherDims.batchCoord _ _ 0 + GatherDims.offCoord _ _ 0 = t.val
    rw [GatherDims.start_batching _ _ _ _ (List.mem_singleton.mpr rfl),
      GatherDims.offCoord_eq_zero _ _ _ fun h => ((GatherDims.mem_sKept _ _).mp h).2 (List.mem_singleton.mpr rfl)]
    simp only [Nat.zero_add, Nat.add_zero]
    unfold GatherDims.batchCoord
    rw [dif_pos (show (0 : Fin 2) ∈ gather_S1024x64_S1024x1x1_S1024x1_n_1_0_0_1_2_11.operandBatchingDims from List.mem_singleton.mpr rfl)]
    rfl
  | 1 =>
    show GatherDims.start _ _ _ 1 + GatherDims.batchCoord _ _ 1 + GatherDims.offCoord _ _ 1 = l.val
    rw [GatherDims.batchCoord_eq_zero _ _ _ fun h => by simp [gather_S1024x64_S1024x1x1_S1024x1_n_1_0_0_1_2_11] at h,
      GatherDims.offCoord_eq_zero _ _ _ fun h => ((GatherDims.mem_sKept _ _).mp h).1 (List.mem_singleton.mpr rfl)]
    simp only [Nat.add_zero]
    unfold GatherDims.start
    rw [dif_pos (show (1 : Fin 2) ∈ gather_S1024x64_S1024x1x1_S1024x1_n_1_0_0_1_2_11.startIndexMap from List.mem_singleton.mpr rfl)]
    refine Eq.trans (congrArg (fun i => min (idx i).toInt.toNat 63) ?_) (show min (idx (ix3 t 0 0)).toInt.toNat 63 = l.val by
      rw [h, clamp_word (by omega) (by omega)])
    funext b
    refine Fin.ext ?_
    match b with
    | 0 => rfl
    | 1 => rfl
    | 2 => rfl

/-- The weights of a token's expert. -/
theorem pickExpert_read (ew : FVec Ideal S64x512x1024 .f32) (idx : IVec S1024x1 32) (t : Fin 1024) (d : Fin 512) (o : Fin 1024) (l : Fin 64)
    (h : idx (ix2 t 0) = BitVec.ofNat 32 l.val) :
    Host.gather gather_S64x512x1024_S1024x1_S1024x512x1024_12_0_n_n_0_1_15121024 ew idx (ix3 t d o) = ew (ix3 l d o) := by
  have hl := l.isLt
  unfold Host.gather
  refine congrArg ew (funext fun a => Fin.ext ?_)
  match a with
  | 0 =>
    show GatherDims.start _ _ _ 0 + GatherDims.batchCoord _ _ 0 + GatherDims.offCoord _ _ 0 = l.val
    rw [GatherDims.batchCoord_eq_zero _ _ _ List.not_mem_nil,
      GatherDims.offCoord_eq_zero _ _ _ fun h => ((GatherDims.mem_sKept _ _).mp h).1 (List.mem_singleton.mpr rfl)]
    simp only [Nat.add_zero]
    unfold GatherDims.start
    rw [dif_pos (show (0 : Fin 3) ∈ gather_S64x512x1024_S1024x1_S1024x512x1024_12_0_n_n_0_1_15121024.startIndexMap from List.mem_singleton.mpr rfl)]
    refine Eq.trans (congrArg (fun i => min (idx i).toInt.toNat 63) ?_) (show min (idx (ix2 t 0)).toInt.toNat 63 = l.val by
      rw [h, clamp_word (by omega) (by omega)])
    funext b
    refine Fin.ext ?_
    match b with
    | 0 => rfl
    | 1 => rfl
  | 1 =>
    show GatherDims.start _ _ _ 1 + GatherDims.batchCoord _ _ 1 + GatherDims.offCoord _ _ 1 = d.val
    rw [GatherDims.batchCoord_eq_zero _ _ _ List.not_mem_nil]
    unfold GatherDims.start GatherDims.offCoord
    rw [dif_neg (show ¬(1 : Fin 3) ∈ gather_S64x512x1024_S1024x1_S1024x512x1024_12_0_n_n_0_1_15121024.startIndexMap by decide),
      dif_pos (show (1 : Fin 3) ∈ gather_S64x512x1024_S1024x1_S1024x512x1024_12_0_n_n_0_1_15121024.sKept by decide)]
    exact Nat.zero_add _
  | 2 =>
    show GatherDims.start _ _ _ 2 + GatherDims.batchCoord _ _ 2 + GatherDims.offCoord _ _ 2 = o.val
    rw [GatherDims.batchCoord_eq_zero _ _ _ List.not_mem_nil]
    unfold GatherDims.start GatherDims.offCoord
    rw [dif_neg (show ¬(2 : Fin 3) ∈ gather_S64x512x1024_S1024x1_S1024x512x1024_12_0_n_n_0_1_15121024.startIndexMap by decide),
      dif_pos (show (2 : Fin 3) ∈ gather_S64x512x1024_S1024x1_S1024x512x1024_12_0_n_n_0_1_15121024.sKept by decide)]
    exact Nat.zero_add _

/-- The reference's weight of a token is the softmax weight of its expert. -/
theorem refCoef_read (he : Routes e rt) (hf : Fits e) (x : FVec Ideal S1024x512 .f32) (rw' : FVec Ideal S512x64 .f32) (t : Fin 1024) :
    refCoef x rw' rt (ix2 t 0) = weight x rw' t ⟨e t.val, hf.lt _⟩ := by
  have hm : Host.reduce IntOp.andi (refInRange rt) (constantI S_ 1 1#1) reducesTo_S1024x1x1_S1024x1_d2 h_S_ (ix2 t 0) = 1#1 :=
    Host.reduce_andi_one _ _ _ _ _ rfl (refInRange_read he hf)
  unfold refCoef
  show Scalar.select (Host.reduce IntOp.andi (refInRange rt) (constantI S_ 1 1#1) reducesTo_S1024x1x1_S1024x1_d2 h_S_ (ix2 t 0)) _ _ = _
  rw [hm, pickRow_read _ _ t ⟨e t.val, hf.lt _⟩ (refPick_read he hf t), refProbs_read]
  rfl

/-- The reference's result at an element. -/
theorem refOut_read (he : Routes e rt) (hf : Fits e) (x : FVec Ideal S1024x512 .f32) (rw' : FVec Ideal S512x64 .f32)
    (ew : FVec Ideal S64x512x1024 .f32) (sw : FVec Ideal S512x1024 .f32) (t : Fin 1024) (o : Fin 1024) :
    refOut x rw' rt ew sw (ix2 t o)
      = (∑ d : Fin 512, x (ix2 t d) * sw (ix2 d o))
        + weight x rw' t ⟨e t.val, hf.lt _⟩ * ∑ d : Fin 512, x (ix2 t d) * ew (ix3 ⟨e t.val, hf.lt _⟩ d o) := by
  pointwise [refOut]
  simp only [refCoef_read he hf, pickExpert_read ew _ t _ o ⟨e t.val, hf.lt _⟩ (refExpert_read he hf t)]

end Cert.Moe

end
-- ==== Proof.Weights.lean ====
/-
Softmax weights are finite and not negative where the scores are finite, so that a weight multiplied into every term of
a sum is the weight times the sum, whatever the terms.
-/
module

public import proofs.«01_k».proof.Proof.Reference

@[expose] public section

set_option maxRecDepth 16384

noncomputable section

namespace Cert.Moe

open Idealize.ShloMosaic Idealize.ShloMosaic.TcCoe

/-- Every element of an array is a real number. -/
def Finite {ι : Type} (x : ι → EReal) : Prop := ∀ i, ∃ r : ℝ, x i = (r : EReal)

/-- The sum of reals, as an extended real. -/
theorem coe_fsum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of reals is a real. -/
theorem real_sum {ι : Type} (s : Finset ι) (f : ι → EReal) (h : Finite f) : ∃ r : ℝ, ∑ i ∈ s, f i = (r : EReal) := by
  classical
  choose g hg using h
  refine ⟨∑ i ∈ s, g i, ?_⟩
  simp only [hg]
  exact (coe_fsum s g).symm

/-- The largest of some reals, taken from the least extended real, is a real, unless there is none. -/
theorem real_fold_max {ι : Type} (s : Finset ι) (f : ι → EReal) (h : Finite f) :
    s.fold max ⊥ f = ⊥ ∧ s = ∅ ∨ ∃ r : ℝ, s.fold max ⊥ f = (r : EReal) := by
  classical
  induction s using Finset.induction_on with
  | empty => exact Or.inl ⟨rfl, rfl⟩
  | insert a s ha ih =>
    right
    obtain ⟨r, hr⟩ := h a
    rw [Finset.fold_insert ha, hr]
    rcases ih with ⟨h0, _⟩ | ⟨q, hq⟩
    · exact ⟨r, by rw [h0, max_bot_right]⟩
    · exact ⟨max r q, by rw [hq]; exact ((EReal.coe_strictMono.monotone).map_max).symm⟩

variable {x : FVec Ideal Cert.ReferenceIdeal.S1024x512 .f32} {rw' : FVec Ideal Cert.ReferenceIdeal.S512x64 .f32}

/-- With finite tokens and router's weights every score is a real number. -/
theorem score_real (hx : Finite x) (hr : Finite rw') (t : Fin 1024) (l : Fin 64) : ∃ r : ℝ, score x rw' t l = (r : EReal) := by
  refine real_sum _ _ fun d => ?_
  obtain ⟨a, ha⟩ := hx (ix2 t d)
  obtain ⟨b, hb⟩ := hr (ix2 d l)
  exact ⟨a * b, by rw [ha, hb]; exact (EReal.coe_mul a b).symm⟩

/-- An exponential in the softmax is a positive real. -/
theorem expo_real (hx : Finite x) (hr : Finite rw') (t : Fin 1024) (l : Fin 64) : ∃ r : ℝ, 0 < r ∧ expo x rw' t l = (r : EReal) := by
  obtain ⟨s, hs⟩ := score_real hx hr t l
  have hbot : Ideal.ofBits .f32 4286578688#32 = (⊥ : EReal) := by simp [Ideal.ofBits, Ideal.ieee]
  rcases real_fold_max (Finset.univ : Finset (Fin 64)) (fun l' => score x rw' t l') (score_real hx hr t) with ⟨_, h⟩ | ⟨q, hq⟩
  · exact absurd h (Finset.univ_nonempty.ne_empty)
  · refine ⟨Real.exp (s - q), Real.exp_pos _, ?_⟩
    unfold expo
    rw [hbot, hq, hs, ← EReal.coe_sub]
    rfl

/-- A weight is a nonnegative real. -/
theorem weight_real (hx : Finite x) (hr : Finite rw') (t : Fin 1024) (l : Fin 64) : ∃ r : ℝ, 0 ≤ r ∧ weight x rw' t l = (r : EReal) := by
  choose g hg he using expo_real hx hr t
  have hsum : (∑ l' : Fin 64, expo x rw' t l') = ((∑ l' : Fin 64, g l' : ℝ) : EReal) := by
    simp only [he]
    exact (coe_fsum _ g).symm
  have hpos : 0 < ∑ l' : Fin 64, g l' := Finset.sum_pos (fun i _ => hg i) Finset.univ_nonempty
  refine ⟨g l * (∑ l' : Fin 64, g l')⁻¹, mul_nonneg (hg l).le (inv_nonneg.2 hpos.le), ?_⟩
  unfold weight Ideal.div
  rw [hsum, he, if_neg (by rw [EReal.coe_eq_zero]; exact hpos.ne'), EReal.coe_mul, EReal.coe_inv]

/-- A weight in every term of a sum is the weight times the sum. -/
theorem weigh_sum {ι : Type} (s : Finset ι) (c : EReal) (hc : 0 ≤ c) (ht : c ≠ ⊤) (f g : ι → EReal) :
    ∑ d ∈ s, f d * c * g d = c * ∑ d ∈ s, f d * g d := by
  classical
  induction s using Finset.induction_on with
  | empty => simp
  | insert a s ha ih =>
    rw [Finset.sum_insert ha, Finset.sum_insert ha, ih, EReal.left_distrib_of_nonneg_of_ne_top hc ht, mul_comm (f a) c, mul_assoc]

end Cert.Moe

end
-- ==== Proof.Fits.lean ====
/-
What the precondition says of the arrays it is read of: the tokens and the router's weights are real numbers, every
route is the number of an expert, and no owner receives more tokens than its rows hold.
-/
module

public import proofs.«01_k».proof.Proof.Weights
public import proofs.«01_k».proof.Proof.Gen.Pre_tokens_fit_KernelIdeal
public import Idealize.ShloMosaic.Lib.IndicatorCount
public import Idealize.ShloMosaic.Lib.Routing.Count

@[expose] public section

set_option maxRecDepth 16384

noncomputable section

namespace Cert.Moe

open Cert.Pre_tokens_fit_KernelIdeal Cert.Pre_tokens_fit_KernelIdeal.Gen
open Idealize.ShloMosaic Idealize.ShloMosaic.TcCoe

/-- A fold by `and` that is 1 has a 1 at every element. -/
theorem fold_andi_one {ι : Type} (s : Finset ι) (f : ι → BitVec 1) (h : s.fold IntOp.andi (1#1) f = 1#1) : ∀ i ∈ s, f i = 1#1 := by
  classical
  induction s using Finset.induction_on with
  | empty => exact fun i hi => absurd hi (Finset.notMem_empty i)
  | insert a s ha ih =>
    rw [Finset.fold_insert ha] at h
    obtain ⟨h1, h2⟩ := IntOp.andi_eq_one.1 h
    intro i hi
    rcases Finset.mem_insert.1 hi with rfl | hi
    · exact h1
    · exact ih h2 i hi

/-- What lies below infinity in absolute value is a real. -/
theorem real_of_abs {a : EReal} (h : FloatOps.absf (F := Ideal) (φ := .f32) a < Ideal.ofBits .f32 2139095040#32) : ∃ r : ℝ, a = (r : EReal) := by
  have ht : Ideal.ofBits .f32 2139095040#32 = (⊤ : EReal) := by simp [Ideal.ofBits, Ideal.ieee]
  rw [ht] at h
  have h' : max a (-a) < ⊤ := h
  induction a with
  | bot => simp at h'
  | coe r => exact ⟨r, rfl⟩
  | top => simp at h'

/-- The number of tokens of an owner, as the precondition counts them: a sum of bits. -/
theorem owner_count (n : ℕ) (f : Fin n → BitVec 32) (g : ℕ → ℕ) (hg : ∀ i : Fin n, f i = BitVec.ofNat 32 (g i.val)) (hl : ∀ k, g k < 64)
    {c : ℕ} (hc : c < 16) :
    Finset.univ.fold IntOp.addi (0#32) (fun i => BitVec.setWidth 32 (IntOp.cmpi .eq (IntOp.divsi .host (f i) 4#32) (BitVec.ofNat 32 c)))
      = BitVec.ofNat 32 (Nat.count (fun k => g k / 4 = c) n) := by
  rw [IndicatorCount.fold_addi_setWidth_eq_card, ← Routing.card_filter_fin]
  refine congrArg (fun s : Finset (Fin n) => BitVec.ofNat 32 s.card) (Finset.filter_congr fun i _ => ?_)
  have h := hl i.val
  rw [hg, divsi_four h, cmpi_eq_nat (by omega) (by omega), WordCmp.ofBool_decide_eq_one_iff]

/-- A route's word as a natural; beyond the tokens, 0. -/
def routeNat (rt : IVec S1024x1 32) (k : ℕ) : ℕ := if h : k < 1024 then (rt (ix2 ⟨k, h⟩ 0)).toNat else 0

/-- The precondition at one index: both arrays are real, one token's route is in range, and one owner's tokens of one
    chunk, and of all chunks, fit. -/
theorem pre_at (x : FVec Ideal S1024x512 .f32) (rw' : FVec Ideal S512x64 .f32) (rt : IVec S1024x1 32) (ew : FVec Ideal S4x512x1024 .f32)
    (sw : FVec Ideal S512x1024 .f32) (h : fn (F := Ideal) x rw' rt ew sw = fun _ => 1#1) (b : Fin 16) (j : Fin 64) (c : Fin 16) :
    ((∀ k : Fin 1024 × Fin 512, ∃ r : ℝ, x (ix2 k.1 k.2) = (r : EReal)) ∧ (∀ k : Fin 512 × Fin 64, ∃ r : ℝ, rw' (ix2 k.1 k.2) = (r : EReal))
      ∧ (rt (ix2 ⟨b.val * 64 + j.val, by omega⟩ 0)).toNat < 64)
    ∧ IntOp.cmpi .sle (Finset.univ.fold IntOp.addi (0#32) fun i : Fin 64 => BitVec.setWidth 32
        (IntOp.cmpi .eq (IntOp.divsi .host (rt (ix2 ⟨b.val * 64 + i.val, by omega⟩ 0)) 4#32) (BitVec.ofNat 32 c.val))) 16#32 = 1#1
    ∧ IntOp.cmpi .sle (Finset.univ.fold IntOp.addi (0#32) fun i : Fin 1024 => BitVec.setWidth 32
        (IntOp.cmpi .eq (IntOp.divsi .host (rt (ix2 i 0)) 4#32) (BitVec.ofNat 32 c.val))) 128#32 = 1#1 := by
  have h := congrFun h (ix3 b j c)
  pointwise [fn, fn_part1] at h
  obtain ⟨h1, h2⟩ := IntOp.andi_eq_one.1 h
  obtain ⟨h3, h4⟩ := IntOp.andi_eq_one.1 h1
  obtain ⟨h5, h6⟩ := IntOp.andi_eq_one.1 h3
  rw [WordCmp.andi_sge_zero_slt_ofNat (by omega), WordCmp.ofBool_decide_eq_one_iff] at h4
  refine ⟨⟨fun k => real_of_abs ?_, fun k => real_of_abs ?_, h4⟩, IntOp.andi_eq_one.1 h2⟩
  · exact (WordCmp.ofBool_decide_eq_one_iff _).1 (fold_andi_one _ _ h5 k (Finset.mem_univ k))
  · exact (WordCmp.ofBool_decide_eq_one_iff _).1 (fold_andi_one _ _ h6 k (Finset.mem_univ k))

/-- The precondition, read: the arrays are real, and the routes are naturals that fit. -/
theorem fits_of_pre (x : FVec Ideal S1024x512 .f32) (rw' : FVec Ideal S512x64 .f32) (rt : IVec S1024x1 32) (ew : FVec Ideal S4x512x1024 .f32)
    (sw : FVec Ideal S512x1024 .f32) (h : fn (F := Ideal) x rw' rt ew sw = fun _ => 1#1) :
    Finite x ∧ Finite rw' ∧ Routes (routeNat rt) rt ∧ Fits (routeNat rt) := by
  have hlt : ∀ k, routeNat rt k < 64 := fun k => by
    unfold routeNat
    split
    · rename_i hk
      have := (pre_at x rw' rt ew sw h ⟨k / 64, by omega⟩ ⟨k % 64, by omega⟩ 0).1.2.2
      simpa only [Nat.div_add_mod'] using this
    · decide
  have hr : Routes (routeNat rt) rt := fun t => by
    unfold routeNat
    rw [dif_pos t.isLt, BitVec.ofNat_toNat, BitVec.setWidth_eq]
  refine ⟨fun i => ?_, fun i => ?_, hr, hlt, fun b hb c hc => ?_, fun c hc => ?_⟩
  · idx_vars i
    exact (pre_at x rw' rt ew sw h 0 0 0).1.1 (i0, i1)
  · idx_vars i
    exact (pre_at x rw' rt ew sw h 0 0 0).1.2.1 (i0, i1)
  · have h1 := (pre_at x rw' rt ew sw h ⟨b, hb⟩ 0 ⟨c, hc⟩).2.1
    have hn := Nat.count_le (p := fun k => routeNat rt (64 * b + k) / 4 = c) (n := 64)
    dsimp only at h1
    rw [owner_count 64 _ (fun k => routeNat rt (64 * b + k)) (fun i => (hr _).trans (congrArg (fun n => BitVec.ofNat 32 (routeNat rt n)) (show b * 64 + i.val = 64 * b + i.val by omega)))
        (fun k => hlt _) hc,
      cmpi_sle_nat (by omega) (by omega), WordCmp.ofBool_decide_eq_one_iff] at h1
    exact h1
  · have h1 := (pre_at x rw' rt ew sw h 0 0 ⟨c, hc⟩).2.2
    have hn := Nat.count_le (p := fun k => routeNat rt k / 4 = c) (n := 1024)
    dsimp only at h1
    rw [owner_count 1024 _ (routeNat rt) hr hlt hc, cmpi_sle_nat (by omega) (by omega), WordCmp.ofBool_decide_eq_one_iff] at h1
    exact h1

end Cert.Moe

end
-- ==== Proof.Agree.lean ====
/-
The kernel and the reference agree over the exact extended reals, wherever the precondition holds: row `r` of device
`c`'s block is row `64 c + r` of the reference's result.
-/
module

public import proofs.«01_k».proof.Proof.Staged
public import proofs.«01_k».proof.Proof.Fits
public import proofs.«01_k».proof.Proof.Frames
public import Idealize.ShloMosaic.Lib.Pipeline.ValueKit

@[expose] public section

set_option maxRecDepth 16384

noncomputable section

namespace Cert.Moe

open Cert.KernelIdeal Cert.KernelIdeal.Gen
open Idealize.ShloMosaic Idealize.ShloMosaic.TcCoe Idealize.SL.Sem

section Value

variable {e : ℕ → ℕ} {rt : Vec Ideal S1024x1 .i32}

/-- The kernel's coefficient of a token is the softmax weight of its expert. -/
theorem coef_read (he : Routes e rt) (hf : Fits e) (x : Vec Ideal S1024x512 .f32) (rw' : Vec Ideal S512x64 .f32) (t : Fin 1024) :
    coef (F := Ideal) x rw' rt (ix2 t 0) = weight x rw' t ⟨e t.val, hf.lt _⟩ := by
  have h : coef (F := Ideal) x rw' rt (ix2 t 0)
      = ∑ l : Fin 64, Scalar.select (IntOp.cmpi .eq (BitVec.ofNat 32 l.val) (rt (ix2 t 0))) (weight x rw' t l) 0 := by
    pointwise [coef, k0_pay3, k0_pay1, k0_pay2, weight, expo, score]
  have hl := hf.lt t.val
  have hs : ∀ l : Fin 64, Scalar.select (IntOp.cmpi .eq (BitVec.ofNat 32 l.val) (rt (ix2 t 0))) (weight x rw' t l) 0
      = (if l = ⟨e t.val, hl⟩ then 1 else 0) * weight x rw' t l := by
    intro l
    have hll := l.isLt
    rw [he t, cmpi_eq_nat (by omega) (by omega), WordCmp.select_ofBool]
    by_cases hq : l.val = e t.val
    · rw [if_pos (by simp [hq]), if_pos (Fin.ext hq), one_mul]
    · rw [if_neg (by simp [hq]), if_neg (fun h => hq (congrArg Fin.val h)), zero_mul]
  rw [h]
  simp only [hs]
  exact sum_pick (fun l : Fin 64 => l = ⟨e t.val, hl⟩) _ _ fun l => Iff.rfl

/-- What the owner of a token stages for it: the softmax weight of its expert times its product with that expert's weights. -/
theorem staged_read (he : Routes e rt) (hf : Fits e) {x : Vec Ideal S1024x512 .f32} {rw' : Vec Ideal S512x64 .f32}
    (hx : Finite x) (hr : Finite rw') (EW : FVec Ideal Cert.ReferenceIdeal.S64x512x1024 .f32)
    (c a : Dev nD) (r : Fin 64) (ha : e (64 * c.val + r.val) / 4 = a.val) (p : Fin 256) (hp : p.val = 16 * c.val + slot e (64 * c.val + r.val))
    (o : Fin 1024) (ht : 64 * c.val + r.val < 1024) :
    stage (F := Ideal) (me a) x rw' rt (Layout.block ⟨3, ![4, 512, 1024]⟩ ⟨3, ![64, 512, 1024]⟩ 0 16 a EW) (ix2 p o)
      = weight x rw' ⟨64 * c.val + r.val, ht⟩ ⟨e (64 * c.val + r.val), hf.lt _⟩
        * ∑ d : Fin 512, x (ix2 ⟨64 * c.val + r.val, ht⟩ d) * EW (ix3 ⟨e (64 * c.val + r.val), hf.lt _⟩ d o) := by
  have hme : ∀ a : Dev nD, me a = BitVec.ofNat 32 a.val := by decide
  have hc := c.isLt
  change c.val < 16 at hc
  have hrl := r.isLt
  have hs := slot_lt hf (t := 64 * c.val + r.val) ht
  have hl := hf.lt (64 * c.val + r.val)
  have hj : 256 * (c.val / 4) + (64 * (c.val % 4) + r.val) = 64 * c.val + r.val := by omega
  have hb : stage (F := Ideal) (me a) x rw' rt (Layout.block ⟨3, ![4, 512, 1024]⟩ ⟨3, ![64, 512, 1024]⟩ 0 16 a EW) (ix2 p o)
      = stageBlk (F := Ideal) (BitVec.ofNat 32 a.val) x rw' rt (Layout.block ⟨3, ![4, 512, 1024]⟩ ⟨3, ![64, 512, 1024]⟩ 0 16 a EW)
          ⟨c.val / 4, by omega⟩ (ix2 ⟨p.val % 64, Nat.mod_lt _ (by decide)⟩ o) := by
    rw [← hme a, ix2_eq_valueIdx ⟨p.val % 64, _⟩ o]
    unfold stage
    have hz : (⟨p.val / 64, by omega⟩ : Fin 4) = ⟨c.val / 4, by omega⟩ := Fin.ext (by show p.val / 64 = c.val / 4; omega)
    rw [← hz]
    rfl
  have hread := stageBlk_read he hf (⟨a.val, a.isLt⟩ : Fin 16) x rw' (Layout.block ⟨3, ![4, 512, 1024]⟩ ⟨3, ![64, 512, 1024]⟩ 0 16 a EW)
    ⟨c.val / 4, by omega⟩ ⟨64 * (c.val % 4) + r.val, by omega⟩ (by simp only [hj]; exact ha) ⟨p.val % 64, Nat.mod_lt _ (by decide)⟩
    (by simp only [hj]; omega) o
  have hyg := yg_read (x := x) (rw' := rw') (ew := Layout.block ⟨3, ![4, 512, 1024]⟩ ⟨3, ![64, 512, 1024]⟩ 0 16 a EW) he hf (⟨a.val, a.isLt⟩ : Fin 16)
    ⟨64 * c.val + r.val, ht⟩ ha o
  simp only [hj] at hread
  rw [hb, hread, hyg]
  obtain ⟨w, hw0, hw⟩ := weight_real hx hr ⟨64 * c.val + r.val, ht⟩ ⟨e (64 * c.val + r.val), hl⟩
  rw [coef_read he hf, weigh_sum _ _ (by rw [hw]; exact EReal.coe_nonneg.2 hw0) (by rw [hw]; exact EReal.coe_ne_top w)]
  refine congrArg _ (Finset.sum_congr rfl fun d _ => ?_)
  refine congrArg (fun v => _ * v) ?_
  rw [Layout.block_apply]
  refine congrArg EW (funext fun b => Fin.ext ?_)
  rw [Layout.Tiles.idx_val]
  match b with
  | 0 => show a.val * 4 + e (64 * c.val + r.val) % 4 = e (64 * c.val + r.val); omega
  | 1 => rfl
  | 2 => rfl

end Value

section Arrays

variable (m : (ℓ : Loc nD τ sig) → Buf (Elt Ideal) ℓ) (ρ : Dev nD → PrngReg)

/-! ## The arrays the program's blocks are -/

/-- A device's block of the tokens is the whole array. -/
theorem xV_eq (c : Dev nD) : xV m c = m ((c : Thread nD τ).loc main_arg0) :=
  funext fun i => congrArg (m ((c : Thread nD τ).loc main_arg0)) (funext fun a => Fin.ext
    (win0_0.rect_emb_val_of_index_zero (0 : Fin 1) a rfl i))

/-- A device's block of the router's weights is the whole array. -/
theorem rwV_eq (c : Dev nD) : rwV m c = m ((c : Thread nD τ).loc main_arg1) :=
  funext fun i => congrArg (m ((c : Thread nD τ).loc main_arg1)) (funext fun a => Fin.ext
    (win0_1.rect_emb_val_of_index_zero (0 : Fin 1) a rfl i))

/-- A device's block of the experts' numbers is the whole array. -/
theorem rtV_eq (c : Dev nD) : rtV m c = m ((c : Thread nD τ).loc main_arg2) :=
  funext fun i => congrArg (m ((c : Thread nD τ).loc main_arg2)) (funext fun a => Fin.ext
    (win0_2.rect_emb_val_of_index_zero (0 : Fin 1) a rfl i))

/-- A device's block of the experts' weights is its own array of them. -/
theorem ewV_eq (c : Dev nD) : ewV m c = m ((c : Thread nD τ).loc main_arg3) :=
  funext fun i => congrArg (m ((c : Thread nD τ).loc main_arg3)) (funext fun a => Fin.ext
    (win0_3.rect_emb_val_of_index_zero (0 : Fin 1) a rfl i))

/-- A device's block of the shared weights is the whole array. -/
theorem swV_eq (c : Dev nD) : swV m c = m ((c : Thread nD τ).loc main_arg4) :=
  funext fun i => congrArg (m ((c : Thread nD τ).loc main_arg4)) (funext fun a => Fin.ext
    (win0_4.rect_emb_val_of_index_zero (0 : Fin 1) a rfl i))

/-- The array the result is written to ends as the block the device computed. -/
theorem finalA_out (c : Dev nD) : finalA m ρ c 5 = outV m c :=
  (dats m ρ 0 c).arrAt_eq_of_after_last 5 (0 : Fin 1) ⟨rfl, fun t _ => Subsingleton.elim (α := Fin 1) t 0, fun a => ⟨rfl, rfl⟩⟩ (outV m c) fun _ => rfl

/-- A device's block of the result is its block of the reference's result. -/
theorem outV_read {x : Vec Ideal S1024x512 .f32} {rw' : Vec Ideal S512x64 .f32} {rt : Vec Ideal S1024x1 .i32}
    {EW : FVec Ideal Cert.ReferenceIdeal.S64x512x1024 .f32} {sw : Vec Ideal S512x1024 .f32}
    (h0 : ∀ c, xV m c = x) (h1 : ∀ c, rwV m c = rw') (h2 : ∀ c, rtV m c = rt)
    (h3 : ∀ c, ewV m c = Layout.block ⟨3, ![4, 512, 1024]⟩ ⟨3, ![64, 512, 1024]⟩ 0 16 c EW) (h4 : ∀ c, swV m c = sw)
    (hx : Finite x) (hr : Finite rw') {e : ℕ → ℕ} (he : Routes e rt) (hf : Fits e) (c : Dev nD) :
    outV m c = Layout.block ⟨2, ![64, 1024]⟩ ⟨2, ![1024, 1024]⟩ 0 16 c (refOut x rw' rt EW sw) := by
  funext i
  idx_vars i
  have hc := c.isLt
  change c.val < 16 at hc
  have ht : 64 * c.val + i0.val < 1024 := by omega
  have hs := slot_lt hf (t := 64 * c.val + i0.val) ht
  have hl := hf.lt (64 * c.val + i0.val)
  have hblock : (Layout.block ⟨2, ![64, 1024]⟩ ⟨2, ![1024, 1024]⟩ 0 16 c (refOut x rw' rt EW sw) : (⟨2, ![64, 1024]⟩ : Shape).Idx → Ideal .f32) (ix2 i0 i1)
      = refOut x rw' rt EW sw (ix2 ⟨64 * c.val + i0.val, ht⟩ i1) := by
    rw [Layout.block_apply]
    refine congrArg (refOut x rw' rt EW sw) (funext fun b => Fin.ext ?_)
    rw [Layout.Tiles.idx_val]
    match b with
    | 0 => show c.val * 64 + i0.val = 64 * c.val + i0.val; omega
    | 1 => rfl
  rw [hblock, refOut_read he hf]
  unfold outV
  rw [h0, h2, h4, result_read he hf c x sw (rpV m c) i0 i1 ⟨16 * (e (64 * c.val + i0.val) / 4) + slot e (64 * c.val + i0.val), by omega⟩ rfl]
  refine congrArg (fun v => _ + v) ?_
  refine Eq.trans ?_ (staged_read he hf hx hr EW c ⟨e (64 * c.val + i0.val) / 4, by show _ < 16; omega⟩ i0 rfl
    ⟨16 * c.val + slot e (64 * c.val + i0.val), by omega⟩ rfl i1 ht)
  have hq : (16 * (e (64 * c.val + i0.val) / 4) + slot e (64 * c.val + i0.val)) / 16 = e (64 * c.val + i0.val) / 4 := by omega
  have hm : (16 * (e (64 * c.val + i0.val) / 4) + slot e (64 * c.val + i0.val)) % 16 = slot e (64 * c.val + i0.val) := by omega
  show stgV m ⟨(16 * (e (64 * c.val + i0.val) / 4) + slot e (64 * c.val + i0.val)) / 16, _⟩
    (ValueIdx.ix2 ⟨16 * c.val + (16 * (e (64 * c.val + i0.val) / 4) + slot e (64 * c.val + i0.val)) % 16, _⟩ i1) = _
  simp only [hq, hm]
  unfold stgV
  rw [h0, h1, h2, h3]
  exact congrArg _ (ix2_eq_valueIdx _ _).symm

end Arrays

/-- THE VALUE: wherever the precondition holds, each device ends with its block of the reference's result. -/
theorem algebraic : Cert.algebraic_KernelIdeal_ReferenceIdeal_pre_tokens_fit_KernelIdeal := by
  intro m g m' g' hpre hargs
  have hp := hpre 0
  have ha := hargs 0
  obtain ⟨hx, hr, he, hf⟩ := fits_of_pre _ _ _ _ _ hp
  rw [ha.1] at hx
  rw [ha.2.1] at hr
  rw [ha.2.2.1] at he hf
  refine ⟨_, (θ_run _ _ _).mono (fun r h c => ⟨?_, args_kept h.1 c⟩) (run_main m g),
    (θ_run Cert.ReferenceIdeal.defs _ _).mono (fun r h => h 0) (Cert.ReferenceIdeal.Value.run (F := Ideal) m' g')⟩
  refine (h.1 c 5).trans ((finalA_out m g c).trans ?_)
  exact outV_read m (fun c => (xV_eq m c).trans (hargs c).1) (fun c => (rwV_eq m c).trans (hargs c).2.1)
    (fun c => (rtV_eq m c).trans (hargs c).2.2.1) (fun c => (ewV_eq m c).trans (hargs c).2.2.2.1)
    (fun c => (swV_eq m c).trans (hargs c).2.2.2.2) hx hr he hf c

end Cert.Moe

end
-- ==== Proof.lean ====
/-
The certificate of a mixture-of-experts layer on sixteen devices, put together: the two programs' frames and the
reference's come from `Frames`, the agreement of the kernel's result with the reference's from `Agree`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tokens_fit_KernelIdeal
public import proofs.«01_k».proof.Proof.Gen.Pre_tokens_fit_ReferenceIdeal
public import proofs.«01_k».proof.Proof.Frames
public import proofs.«01_k».proof.Proof.Agree

@[expose] public section

noncomputable section

namespace Cert.Proof

open Idealize.ShloMosaic Idealize.SL.Sem Cert.Kernel

/-- Everything the certificate claims. The frames hold from any memory, so they hold where the precondition does too. -/
theorem claim : Cert.Claim :=
  ⟨Cert.Kernel.Gen.facts, Cert.KernelIdeal.Gen.facts, Cert.ReferenceIdeal.Gen.facts,
    Cert.Pre_tokens_fit_KernelIdeal.Gen.facts, Cert.Pre_tokens_fit_ReferenceIdeal.Gen.facts,
    Cert.Moe.frame_kernel, Cert.Moe.frame_kernelIdeal, fun m ρ _ => Cert.Moe.frame_kernelIdeal m ρ trivial,
    Cert.Moe.frame_reference, fun m ρ _ => Cert.Moe.frame_reference m ρ trivial, trivial, Cert.Moe.algebraic⟩

end Cert.Proof

end
